-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_softmax_defined [hPre_softmax_defined : Cert.Pre_softmax_defined.Facts] (m : (ℓ : Loc Cert.KernelIdeal.nD Cert.KernelIdeal.τ Cert.KernelIdeal.sig) → Buf (Elt Ideal) ℓ) : Prop :=
  ∀ c : Dev Cert.KernelIdeal.nD,
    (Cert.Pre_softmax_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_softmax_defined [hPre_softmax_defined : Cert.Pre_softmax_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_softmax_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_softmax_defined [hKernelIdeal : Cert.KernelIdeal.Facts] [hPre_softmax_defined : Cert.Pre_softmax_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_softmax_defined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_softmax_defined [hReferenceIdeal : Cert.ReferenceIdeal.Facts] [hPre_softmax_defined : Cert.Pre_softmax_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_softmax_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv31" .f32 0x3D042108#32 ((31⁻¹ : ℝ) : EReal)

def algebraic_KernelIdeal_ReferenceIdeal_pre_softmax_defined [hKernelIdeal : Cert.KernelIdeal.Facts] [hReferenceIdeal : Cert.ReferenceIdeal.Facts] [hPre_softmax_defined : Cert.Pre_softmax_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_softmax_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_softmax_defined : Cert.Pre_softmax_defined.Facts),
    quiescent_Kernel (hKernel := hKernel)
    ∧ quiescent_KernelIdeal (hKernelIdeal := hKernelIdeal)
    ∧ quiescent_KernelIdeal_pre_softmax_defined (hKernelIdeal := hKernelIdeal) (hPre_softmax_defined := hPre_softmax_defined)
    ∧ quiescent_ReferenceIdeal (hReferenceIdeal := hReferenceIdeal)
    ∧ quiescent_ReferenceIdeal_pre_softmax_defined (hReferenceIdeal := hReferenceIdeal) (hPre_softmax_defined := hPre_softmax_defined)
    ∧ preserves_Kernel_KernelIdeal
    ∧ algebraic_KernelIdeal_ReferenceIdeal_pre_softmax_defined (hKernelIdeal := hKernelIdeal) (hReferenceIdeal := hReferenceIdeal) (hPre_softmax_defined := hPre_softmax_defined)
-- ==== Pre_softmax_defined.lean ====
abbrev S4x3x256x256 : Shape := ⟨4, ![4, 3, 256, 256]⟩
abbrev S4x20000x2 : Shape := ⟨3, ![4, 20000, 2]⟩
abbrev S4x20000x4 : Shape := ⟨3, ![4, 20000, 4]⟩
abbrev S4x20000x32 : Shape := ⟨3, ![4, 20000, 32]⟩
abbrev S20000x4 : Shape := ⟨2, ![20000, 4]⟩
abbrev S4x20000x1 : Shape := ⟨3, ![4, 20000, 1]⟩
abbrev S4x20000 : Shape := ⟨2, ![4, 20000]⟩
abbrev S_ : Shape := ⟨0, ![]⟩

class Facts : Prop where
  slices_S4x20000x2_S4x20000x1_0_0_0 : S4x20000x2.Slices ![0, 0, 0] S4x20000x1
  shapeCasts_S4x20000x1_S4x20000 : S4x20000x1.ShapeCasts S4x20000
  slices_S4x20000x2_S4x20000x1_0_0_1 : S4x20000x2.Slices ![0, 0, 1] S4x20000x1
  bcast_S_S4x20000 : S_.BroadcastsInDim S4x20000 (![] : Fin 0 → Fin S4x20000.rank)

variable [Facts]

def fn {F : FTy → Type} [FloatOps F] (main_arg0 : FVec F S4x3x256x256 .f32) (main_arg1 : FVec F S4x20000x2 .f32) (main_arg2 : FVec F S4x20000x4 .f32) (main_arg3 : FVec F S4x20000x32 .f32) (main_arg4 : FVec F S20000x4 .f32) : IVec S4x20000 1 :=
  let main_v0 : FVec F S4x20000x1 .f32 := (extractStridedSlice S4x20000x1 ![0, 0, 0] · slices_S4x20000x2_S4x20000x1_0_0_0) main_arg1
  let main_v1 : FVec F S4x20000 .f32 := shapeCast S4x20000 main_v0 shapeCasts_S4x20000x1_S4x20000
  let main_v2 : FVec F S4x20000x1 .f32 := (extractStridedSlice S4x20000x1 ![0, 0, 1] · slices_S4x20000x2_S4x20000x1_0_0_1) main_arg1
  let main_v3 : FVec F S4x20000 .f32 := shapeCast S4x20000 main_v2 shapeCasts_S4x20000x1_S4x20000
  let main_v4 : FVec F S4x20000 .f32 := maximumf main_v1 main_v3
  let main_cst : FVec F S_ .f32 := constant S_ .f32 0xFF800000#32
  let main_v5 : FVec F S4x20000 .f32 := broadcastInDim S4x20000 ![] bcast_S_S4x20000 main_cst
  let main_v6 : IVec S4x20000 1 := cmpf .ogt main_v4 main_v5
  let main_cst_0 : FVec F S_ .f32 := constant S_ .f32 0x7F800000#32
  let main_v7 : FVec F S4x20000 .f32 := broadcastInDim S4x20000 ![] bcast_S_S4x20000 main_cst_0
  let main_v8 : IVec S4x20000 1 := cmpf .olt main_v4 main_v7
  let main_v9 : IVec S4x20000 1 := andi main_v6 main_v8
  main_v9
-- ==== Kernel.lean ====
abbrev S4x3x256x256 : Shape := ⟨4, ![4, 3, 256, 256]⟩
abbrev S4x20000x2 : Shape := ⟨3, ![4, 20000, 2]⟩
abbrev S4x20000x4 : Shape := ⟨3, ![4, 20000, 4]⟩
abbrev S4x20000x32 : Shape := ⟨3, ![4, 20000, 32]⟩
abbrev S20000x4 : Shape := ⟨2, ![20000, 4]⟩
abbrev S_ : Shape := ⟨0, ![]⟩
abbrev S4x20480x2 : Shape := ⟨3, ![4, 20480, 2]⟩
abbrev S4x160x128x2 : Shape := ⟨4, ![4, 160, 128, 2]⟩
abbrev S4x160x128x1 : Shape := ⟨4, ![4, 160, 128, 1]⟩
abbrev S4x160x128 : Shape := ⟨3, ![4, 160, 128]⟩
abbrev S1x20000x4 : Shape := ⟨3, ![1, 20000, 4]⟩
abbrev S4x20000x40 : Shape := ⟨3, ![4, 20000, 40]⟩
abbrev S4x50x41 : Shape := ⟨3, ![4, 50, 41]⟩
abbrev S4x128x1024 : Shape := ⟨3, ![4, 128, 1024]⟩
abbrev S4x128x48 : Shape := ⟨3, ![4, 128, 48]⟩
abbrev S1x160x128 : Shape := ⟨3, ![1, 160, 128]⟩
abbrev S4x1x1 : Shape := ⟨3, ![4, 1, 1]⟩
abbrev S1x1x128 : Shape := ⟨3, ![1, 1, 128]⟩
abbrev S4x1x128 : Shape := ⟨3, ![4, 1, 128]⟩
abbrev S4x160 : Shape := ⟨2, ![4, 160]⟩
abbrev S4x160x1 : Shape := ⟨3, ![4, 160, 1]⟩
abbrev S4x1 : Shape := ⟨2, ![4, 1]⟩
abbrev S1x4x1x1 : Shape := ⟨4, ![1, 4, 1, 1]⟩
abbrev S1 : Shape := ⟨1, ![1]⟩
abbrev S1x1x1x1 : Shape := ⟨4, ![1, 1, 1, 1]⟩
abbrev S1x1x40 : Shape := ⟨3, ![1, 1, 40]⟩
abbrev S1x40 : Shape := ⟨2, ![1, 40]⟩
abbrev S1x1x1024 : Shape := ⟨3, ![1, 1, 1024]⟩
abbrev S4x128x1 : Shape := ⟨3, ![4, 128, 1]⟩
abbrev S4x128 : Shape := ⟨2, ![4, 128]⟩
abbrev S4x8x1024 : Shape := ⟨3, ![4, 8, 1024]⟩
abbrev S4x8x1 : Shape := ⟨3, ![4, 8, 1]⟩
abbrev S1x8x1 : Shape := ⟨3, ![1, 8, 1]⟩
abbrev S4x1x1024 : Shape := ⟨3, ![4, 1, 1024]⟩
abbrev S4x8 : Shape := ⟨2, ![4, 8]⟩
abbrev S4x16x1024 : Shape := ⟨3, ![4, 16, 1024]⟩
abbrev S4x16x1 : Shape := ⟨3, ![4, 16, 1]⟩
abbrev S1x16x1 : Shape := ⟨3, ![1, 16, 1]⟩
abbrev S4x16 : Shape := ⟨2, ![4, 16]⟩
abbrev S4x24x1024 : Shape := ⟨3, ![4, 24, 1024]⟩
abbrev S4x24x1 : Shape := ⟨3, ![4, 24, 1]⟩
abbrev S1x24x1 : Shape := ⟨3, ![1, 24, 1]⟩
abbrev S4x24 : Shape := ⟨2, ![4, 24]⟩
abbrev S4x32x1024 : Shape := ⟨3, ![4, 32, 1024]⟩
abbrev S4x32x1 : Shape := ⟨3, ![4, 32, 1]⟩
abbrev S1x32x1 : Shape := ⟨3, ![1, 32, 1]⟩
abbrev S4x32 : Shape := ⟨2, ![4, 32]⟩
abbrev S4x40x1024 : Shape := ⟨3, ![4, 40, 1024]⟩
abbrev S4x40x1 : Shape := ⟨3, ![4, 40, 1]⟩
abbrev S1x40x1 : Shape := ⟨3, ![1, 40, 1]⟩
abbrev S4x40 : Shape := ⟨2, ![4, 40]⟩
abbrev S4x48x1024 : Shape := ⟨3, ![4, 48, 1024]⟩
abbrev S4x48x1 : Shape := ⟨3, ![4, 48, 1]⟩
abbrev S1x48x1 : Shape := ⟨3, ![1, 48, 1]⟩
abbrev S4x48 : Shape := ⟨2, ![4, 48]⟩
abbrev S4x56x1024 : Shape := ⟨3, ![4, 56, 1024]⟩
abbrev S4x56x1 : Shape := ⟨3, ![4, 56, 1]⟩
abbrev S1x56x1 : Shape := ⟨3, ![1, 56, 1]⟩
abbrev S4x56 : Shape := ⟨2, ![4, 56]⟩
abbrev S4x64x1024 : Shape := ⟨3, ![4, 64, 1024]⟩
abbrev S4x64x1 : Shape := ⟨3, ![4, 64, 1]⟩
abbrev S1x64x1 : Shape := ⟨3, ![1, 64, 1]⟩
abbrev S4x64 : Shape := ⟨2, ![4, 64]⟩
abbrev S4x72x1024 : Shape := ⟨3, ![4, 72, 1024]⟩
abbrev S4x72x1 : Shape := ⟨3, ![4, 72, 1]⟩
abbrev S1x72x1 : Shape := ⟨3, ![1, 72, 1]⟩
abbrev S4x72 : Shape := ⟨2, ![4, 72]⟩
abbrev S4x80x1024 : Shape := ⟨3, ![4, 80, 1024]⟩
abbrev S4x80x1 : Shape := ⟨3, ![4, 80, 1]⟩
abbrev S1x80x1 : Shape := ⟨3, ![1, 80, 1]⟩
abbrev S4x80 : Shape := ⟨2, ![4, 80]⟩
abbrev S4x88x1024 : Shape := ⟨3, ![4, 88, 1024]⟩
abbrev S4x88x1 : Shape := ⟨3, ![4, 88, 1]⟩
abbrev S1x88x1 : Shape := ⟨3, ![1, 88, 1]⟩
abbrev S4x88 : Shape := ⟨2, ![4, 88]⟩
abbrev S4x96x1024 : Shape := ⟨3, ![4, 96, 1024]⟩
abbrev S4x96x1 : Shape := ⟨3, ![4, 96, 1]⟩
abbrev S1x96x1 : Shape := ⟨3, ![1, 96, 1]⟩
abbrev S4x96 : Shape := ⟨2, ![4, 96]⟩
abbrev S4x104x1024 : Shape := ⟨3, ![4, 104, 1024]⟩
abbrev S4x104x1 : Shape := ⟨3, ![4, 104, 1]⟩
abbrev S1x104x1 : Shape := ⟨3, ![1, 104, 1]⟩
abbrev S4x104 : Shape := ⟨2, ![4, 104]⟩
abbrev S1x4x1x128 : Shape := ⟨4, ![1, 4, 1, 128]⟩
abbrev S1x1x48 : Shape := ⟨3, ![1, 1, 48]⟩
abbrev S1x48 : Shape := ⟨2, ![1, 48]⟩
abbrev S1x36 : Shape := ⟨2, ![1, 36]⟩
abbrev S1x1 : Shape := ⟨2, ![1, 1]⟩
abbrev S1x4 : Shape := ⟨2, ![1, 4]⟩
abbrev S1x41 : Shape := ⟨2, ![1, 41]⟩
abbrev S1x1x41 : Shape := ⟨3, ![1, 1, 41]⟩

abbrev nBuf : Space → Nat
  | .hbm => 17
  | .vmem => 6
  | .smem => 0
  | _ => 0

abbrev bufTy : (tb : Table) → Fin (tcTables nBuf tb) → BufTy
  | .hbm, ⟨0, _⟩ => ⟨S4x3x256x256, .f32⟩
  | .hbm, ⟨1, _⟩ => ⟨S4x20000x2, .f32⟩
  | .hbm, ⟨2, _⟩ => ⟨S4x20000x4, .f32⟩
  | .hbm, ⟨3, _⟩ => ⟨S4x20000x32, .f32⟩
  | .hbm, ⟨4, _⟩ => ⟨S20000x4, .f32⟩
  | .hbm, ⟨5, _⟩ => ⟨S_, .i32⟩
  | .hbm, ⟨6, _⟩ => ⟨S_, .f32⟩
  | .hbm, ⟨7, _⟩ => ⟨S4x20480x2, .f32⟩
  | .hbm, ⟨8, _⟩ => ⟨S4x160x128x2, .f32⟩
  | .hbm, ⟨9, _⟩ => ⟨S4x160x128x1, .f32⟩
  | .hbm, ⟨10, _⟩ => ⟨S4x160x128, .f32⟩
  | .hbm, ⟨11, _⟩ => ⟨S4x160x128x1, .f32⟩
  | .hbm, ⟨12, _⟩ => ⟨S4x160x128, .f32⟩
  | .hbm, ⟨13, _⟩ => ⟨S1x20000x4, .f32⟩
  | .hbm, ⟨14, _⟩ => ⟨S4x20000x4, .f32⟩
  | .hbm, ⟨15, _⟩ => ⟨S4x20000x40, .f32⟩
  | .hbm, ⟨16, _⟩ => ⟨S4x50x41, .f32⟩
  | .local _ .vmem, ⟨0, _⟩ => ⟨S4x160x128, .f32⟩
  | .local _ .vmem, ⟨1, _⟩ => ⟨S4x160x128, .f32⟩
  | .local _ .vmem, ⟨2, _⟩ => ⟨S4x20000x40, .f32⟩
  | .local _ .vmem, ⟨3, _⟩ => ⟨S4x50x41, .f32⟩
  | .local _ .vmem, ⟨4, _⟩ => ⟨S4x128x1024, .f32⟩
  | .local _ .vmem, ⟨5, _⟩ => ⟨S4x128x48, .f32⟩
  | _, _ => ⟨S4x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c100_i32 : BitVec 32 := 100#32
  let v29 : BitVec 32 := Scalar.addi c0_i32 c100_i32
  let c1_i32 : BitVec 32 := 1#32
  ⟨c0_i32, v29, c1_i32⟩
def k0_off1 (v244 : BitVec 32) : Fin 3 → Nat :=
  let c0_161 : Index := 0#32
  let v245 : Index := Scalar.indexCast v244
  let c0_162 : Index := 0#32
  ![0, v245.toNat, 0]

def k0_chk1 (v244 : BitVec 32) : Prop :=
  (∀ a, (k0_off1 v244) a + S1x1x40.size a ≤ S4x20000x40.size a)
theorem k0_off1_inb : ∀ (v244 : BitVec 32) (k0_hw1 : k0_chk1 v244), ∀ a, (k0_off1 v244) a + S1x1x40.size a ≤ S4x20000x40.size a := fun v244 k0_hw1 => k0_hw1

def k0_off2 (k0_t1 : Fin k0_t1_loop.trips) : Fin 3 → Nat :=
  let c0_163 : Index := 0#32
  let c0_i32 : BitVec 32 := 0#32
  let c1_i32 : BitVec 32 := 1#32
  let arg7 : BitVec 32 := Scf.iv c0_i32 c1_i32 k0_t1
  let v248 : Index := Scalar.indexCast arg7
  let c0_164 : Index := 0#32
  ![0, v248.toNat, 0]
def k0_off3 (v259 : BitVec 32) : Fin 3 → Nat :=
  let c1_168 : Index := 1#32
  let v260 : Index := Scalar.indexCast v259
  let c0_169 : Index := 0#32
  ![1, v260.toNat, 0]

def k0_chk2 (v259 : BitVec 32) : Prop :=
  (∀ a, (k0_off3 v259) a + S1x1x40.size a ≤ S4x20000x40.size a)
theorem k0_off3_inb : ∀ (v259 : BitVec 32) (k0_hw2 : k0_chk2 v259), ∀ a, (k0_off3 v259) a + S1x1x40.size a ≤ S4x20000x40.size a := fun v259 k0_hw2 => k0_hw2

def k0_off4 (k0_t1 : Fin k0_t1_loop.trips) : Fin 3 → Nat :=
  let c1_170 : Index := 1#32
  let c0_i32 : BitVec 32 := 0#32
  let c1_i32 : BitVec 32 := 1#32
  let arg7 : BitVec 32 := Scf.iv c0_i32 c1_i32 k0_t1
  let v263 : Index := Scalar.indexCast arg7
  let c0_171 : Index := 0#32
  ![1, v263.toNat, 0]
def k0_off5 (v274 : BitVec 32) : Fin 3 → Nat :=
  let c2_174 : Index := 2#32
  let v275 : Index := Scalar.indexCast v274
  let c0_175 : Index := 0#32
  ![2, v275.toNat, 0]

def k0_chk3 (v274 : BitVec 32) : Prop :=
  (∀ a, (k0_off5 v274) a + S1x1x40.size a ≤ S4x20000x40.size a)
theorem k0_off5_inb : ∀ (v274 : BitVec 32) (k0_hw3 : k0_chk3 v274), ∀ a, (k0_off5 v274) a + S1x1x40.size a ≤ S4x20000x40.size a := fun v274 k0_hw3 => k0_hw3

def k0_off6 (k0_t1 : Fin k0_t1_loop.trips) : Fin 3 → Nat :=
  let c2_176 : Index := 2#32
  let c0_i32 : BitVec 32 := 0#32
  let c1_i32 : BitVec 32 := 1#32
  let arg7 : BitVec 32 := Scf.iv c0_i32 c1_i32 k0_t1
  let v278 : Index := Scalar.indexCast arg7
  let c0_177 : Index := 0#32
  ![2, v278.toNat, 0]
def k0_off7 (v289 : BitVec 32) : Fin 3 → Nat :=
  let c3_180 : Index := 3#32
  let v290 : Index := Scalar.indexCast v289
  let c0_181 : Index := 0#32
  ![3, v290.toNat, 0]

def k0_chk4 (v289 : BitVec 32) : Prop :=
  (∀ a, (k0_off7 v289) a + S1x1x40.size a ≤ S4x20000x40.size a)
theorem k0_off7_inb : ∀ (v289 : BitVec 32) (k0_hw4 : k0_chk4 v289), ∀ a, (k0_off7 v289) a + S1x1x40.size a ≤ S4x20000x40.size a := fun v289 k0_hw4 => k0_hw4

def k0_off8 (k0_t1 : Fin k0_t1_loop.trips) : Fin 3 → Nat :=
  let c3_182 : Index := 3#32
  let c0_i32 : BitVec 32 := 0#32
  let c1_i32 : BitVec 32 := 1#32
  let arg7 : BitVec 32 := Scf.iv c0_i32 c1_i32 k0_t1
  let v293 : Index := Scalar.indexCast arg7
  let c0_183 : Index := 0#32
  ![3, v293.toNat, 0]
@[reducible] def k0_t2_loop : Scf.Loop 32 :=
  let c0_i32_65 : BitVec 32 := 0#32
  let c8_i32 : BitVec 32 := 8#32
  let v152 : BitVec 32 := Scalar.addi c0_i32_65 c8_i32
  let c1_i32_66 : BitVec 32 := 1#32
  ⟨c0_i32_65, v152, c1_i32_66⟩
def k0_off9 (k0_t2 : Fin k0_t2_loop.trips) : Fin 3 → Nat :=
  let c0_155 : Index := 0#32
  let c0_i32_154 : BitVec 32 := 0#32
  let c0_i32_65 : BitVec 32 := 0#32
  let c1_i32_66 : BitVec 32 := 1#32
  let arg7 : BitVec 32 := Scf.iv c0_i32_65 c1_i32_66 k0_t2
  let v216 : BitVec 32 := Scalar.addi c0_i32_154 arg7
  let v217 : Index := Scalar.indexCast v216
  let c0_156 : Index := 0#32
  ![0, v217.toNat, 0]
@[reducible] def k0_t3_loop : Scf.Loop 32 :=
  let c0_i32_71 : BitVec 32 := 0#32
  let c8_i32_72 : BitVec 32 := 8#32
  let v157 : BitVec 32 := Scalar.addi c0_i32_71 c8_i32_72
  let c1_i32_73 : BitVec 32 := 1#32
  ⟨c0_i32_71, v157, c1_i32_73⟩
def k0_off10 (k0_t3 : Fin k0_t3_loop.trips) : Fin 3 → Nat :=
  let c0_155 : Index := 0#32
  let c8_i32_154 : BitVec 32 := 8#32
  let c0_i32_71 : BitVec 32 := 0#32
  let c1_i32_73 : BitVec 32 := 1#32
  let arg7 : BitVec 32 := Scf.iv c0_i32_71 c1_i32_73 k0_t3
  let v216 : BitVec 32 := Scalar.addi c8_i32_154 arg7
  let v217 : Index := Scalar.indexCast v216
  let c0_156 : Index := 0#32
  ![0, v217.toNat, 0]
@[reducible] def k0_t4_loop : Scf.Loop 32 :=
  let c0_i32_78 : BitVec 32 := 0#32
  let c8_i32_79 : BitVec 32 := 8#32
  let v162 : BitVec 32 := Scalar.addi c0_i32_78 c8_i32_79
  let c1_i32_80 : BitVec 32 := 1#32
  ⟨c0_i32_78, v162, c1_i32_80⟩
def k0_off11 (k0_t4 : Fin k0_t4_loop.trips) : Fin 3 → Nat :=
  let c0_154 : Index := 0#32
  let c16_i32 : BitVec 32 := 16#32
  let c0_i32_78 : BitVec 32 := 0#32
  let c1_i32_80 : BitVec 32 := 1#32
  let arg7 : BitVec 32 := Scf.iv c0_i32_78 c1_i32_80 k0_t4
  let v216 : BitVec 32 := Scalar.addi c16_i32 arg7
  let v217 : Index := Scalar.indexCast v216
  let c0_155 : Index := 0#32
  ![0, v217.toNat, 0]
@[reducible] def k0_t5_loop : Scf.Loop 32 :=
  let c0_i32_85 : BitVec 32 := 0#32
  let c8_i32_86 : BitVec 32 := 8#32
  let v167 : BitVec 32 := Scalar.addi c0_i32_85 c8_i32_86
  let c1_i32_87 : BitVec 32 := 1#32
  ⟨c0_i32_85, v167, c1_i32_87⟩
def k0_off12 (k0_t5 : Fin k0_t5_loop.trips) : Fin 3 → Nat :=
  let c0_154 : Index := 0#32
  let c24_i32 : BitVec 32 := 24#32
  let c0_i32_85 : BitVec 32 := 0#32
  let c1_i32_87 : BitVec 32 := 1#32
  let arg7 : BitVec 32 := Scf.iv c0_i32_85 c1_i32_87 k0_t5
  let v216 : BitVec 32 := Scalar.addi c24_i32 arg7
  let v217 : Index := Scalar.indexCast v216
  let c0_155 : Index := 0#32
  ![0, v217.toNat, 0]
@[reducible] def k0_t6_loop : Scf.Loop 32 :=
  let c0_i32_92 : BitVec 32 := 0#32
  let c8_i32_93 : BitVec 32 := 8#32
  let v172 : BitVec 32 := Scalar.addi c0_i32_92 c8_i32_93
  let c1_i32_94 : BitVec 32 := 1#32
  ⟨c0_i32_92, v172, c1_i32_94⟩
def k0_off13 (k0_t6 : Fin k0_t6_loop.trips) : Fin 3 → Nat :=
  let c0_155 : Index := 0#32
  let c32_i32_154 : BitVec 32 := 32#32
  let c0_i32_92 : BitVec 32 := 0#32
  let c1_i32_94 : BitVec 32 := 1#32
  let arg7 : BitVec 32 := Scf.iv c0_i32_92 c1_i32_94 k0_t6
  let v216 : BitVec 32 := Scalar.addi c32_i32_154 arg7
  let v217 : Index := Scalar.indexCast v216
  let c0_156 : Index := 0#32
  ![0, v217.toNat, 0]
@[reducible] def k0_t7_loop : Scf.Loop 32 :=
  let c0_i32_99 : BitVec 32 := 0#32
  let c8_i32_100 : BitVec 32 := 8#32
  let v177 : BitVec 32 := Scalar.addi c0_i32_99 c8_i32_100
  let c1_i32_101 : BitVec 32 := 1#32
  ⟨c0_i32_99, v177, c1_i32_101⟩
def k0_off14 (k0_t7 : Fin k0_t7_loop.trips) : Fin 3 → Nat :=
  let c0_154 : Index := 0#32
  let c40_i32 : BitVec 32 := 40#32
  let c0_i32_99 : BitVec 32 := 0#32
  let c1_i32_101 : BitVec 32 := 1#32
  let arg7 : BitVec 32 := Scf.iv c0_i32_99 c1_i32_101 k0_t7
  let v216 : BitVec 32 := Scalar.addi c40_i32 arg7
  let v217 : Index := Scalar.indexCast v216
  let c0_155 : Index := 0#32
  ![0, v217.toNat, 0]
@[reducible] def k0_t8_loop : Scf.Loop 32 :=
  let c0_i32_106 : BitVec 32 := 0#32
  let c8_i32_107 : BitVec 32 := 8#32
  let v182 : BitVec 32 := Scalar.addi c0_i32_106 c8_i32_107
  let c1_i32_108 : BitVec 32 := 1#32
  ⟨c0_i32_106, v182, c1_i32_108⟩
def k0_off15 (k0_t8 : Fin k0_t8_loop.trips) : Fin 3 → Nat :=
  let c0_154 : Index := 0#32
  let c48_i32 : BitVec 32 := 48#32
  let c0_i32_106 : BitVec 32 := 0#32
  let c1_i32_108 : BitVec 32 := 1#32
  let arg7 : BitVec 32 := Scf.iv c0_i32_106 c1_i32_108 k0_t8
  let v216 : BitVec 32 := Scalar.addi c48_i32 arg7
  let v217 : Index := Scalar.indexCast v216
  let c0_155 : Index := 0#32
  ![0, v217.toNat, 0]
@[reducible] def k0_t9_loop : Scf.Loop 32 :=
  let c0_i32_113 : BitVec 32 := 0#32
  let c8_i32_114 : BitVec 32 := 8#32
  let v187 : BitVec 32 := Scalar.addi c0_i32_113 c8_i32_114
  let c1_i32_115 : BitVec 32 := 1#32
  ⟨c0_i32_113, v187, c1_i32_115⟩
def k0_off16 (k0_t9 : Fin k0_t9_loop.trips) : Fin 3 → Nat :=
  let c0_154 : Index := 0#32
  let c56_i32 : BitVec 32 := 56#32
  let c0_i32_113 : BitVec 32 := 0#32
  let c1_i32_115 : BitVec 32 := 1#32
  let arg7 : BitVec 32 := Scf.iv c0_i32_113 c1_i32_115 k0_t9
  let v216 : BitVec 32 := Scalar.addi c56_i32 arg7
  let v217 : Index := Scalar.indexCast v216
  let c0_155 : Index := 0#32
  ![0, v217.toNat, 0]
@[reducible] def k0_t10_loop : Scf.Loop 32 :=
  let c0_i32_120 : BitVec 32 := 0#32
  let c8_i32_121 : BitVec 32 := 8#32
  let v192 : BitVec 32 := Scalar.addi c0_i32_120 c8_i32_121
  let c1_i32_122 : BitVec 32 := 1#32
  ⟨c0_i32_120, v192, c1_i32_122⟩
def k0_off17 (k0_t10 : Fin k0_t10_loop.trips) : Fin 3 → Nat :=
  let c0_154 : Index := 0#32
  let c64_i32 : BitVec 32 := 64#32
  let c0_i32_120 : BitVec 32 := 0#32
  let c1_i32_122 : BitVec 32 := 1#32
  let arg7 : BitVec 32 := Scf.iv c0_i32_120 c1_i32_122 k0_t10
  let v216 : BitVec 32 := Scalar.addi c64_i32 arg7
  let v217 : Index := Scalar.indexCast v216
  let c0_155 : Index := 0#32
  ![0, v217.toNat, 0]
@[reducible] def k0_t11_loop : Scf.Loop 32 :=
  let c0_i32_127 : BitVec 32 := 0#32
  let c8_i32_128 : BitVec 32 := 8#32
  let v197 : BitVec 32 := Scalar.addi c0_i32_127 c8_i32_128
  let c1_i32_129 : BitVec 32 := 1#32
  ⟨c0_i32_127, v197, c1_i32_129⟩
def k0_off18 (k0_t11 : Fin k0_t11_loop.trips) : Fin 3 → Nat :=
  let c0_154 : Index := 0#32
  let c72_i32 : BitVec 32 := 72#32
  let c0_i32_127 : BitVec 32 := 0#32
  let c1_i32_129 : BitVec 32 := 1#32
  let arg7 : BitVec 32 := Scf.iv c0_i32_127 c1_i32_129 k0_t11
  let v216 : BitVec 32 := Scalar.addi c72_i32 arg7
  let v217 : Index := Scalar.indexCast v216
  let c0_155 : Index := 0#32
  ![0, v217.toNat, 0]
@[reducible] def k0_t12_loop : Scf.Loop 32 :=
  let c0_i32_134 : BitVec 32 := 0#32
  let c8_i32_135 : BitVec 32 := 8#32
  let v202 : BitVec 32 := Scalar.addi c0_i32_134 c8_i32_135
  let c1_i32_136 : BitVec 32 := 1#32
  ⟨c0_i32_134, v202, c1_i32_136⟩
def k0_off19 (k0_t12 : Fin k0_t12_loop.trips) : Fin 3 → Nat :=
  let c0_154 : Index := 0#32
  let c80_i32 : BitVec 32 := 80#32
  let c0_i32_134 : BitVec 32 := 0#32
  let c1_i32_136 : BitVec 32 := 1#32
  let arg7 : BitVec 32 := Scf.iv c0_i32_134 c1_i32_136 k0_t12
  let v216 : BitVec 32 := Scalar.addi c80_i32 arg7
  let v217 : Index := Scalar.indexCast v216
  let c0_155 : Index := 0#32
  ![0, v217.toNat, 0]
@[reducible] def k0_t13_loop : Scf.Loop 32 :=
  let c0_i32_141 : BitVec 32 := 0#32
  let c8_i32_142 : BitVec 32 := 8#32
  let v207 : BitVec 32 := Scalar.addi c0_i32_141 c8_i32_142
  let c1_i32_143 : BitVec 32 := 1#32
  ⟨c0_i32_141, v207, c1_i32_143⟩
def k0_off20 (k0_t13 : Fin k0_t13_loop.trips) : Fin 3 → Nat :=
  let c0_154 : Index := 0#32
  let c88_i32 : BitVec 32 := 88#32
  let c0_i32_141 : BitVec 32 := 0#32
  let c1_i32_143 : BitVec 32 := 1#32
  let arg7 : BitVec 32 := Scf.iv c0_i32_141 c1_i32_143 k0_t13
  let v216 : BitVec 32 := Scalar.addi c88_i32 arg7
  let v217 : Index := Scalar.indexCast v216
  let c0_155 : Index := 0#32
  ![0, v217.toNat, 0]
@[reducible] def k0_t14_loop : Scf.Loop 32 :=
  let c0_i32_148 : BitVec 32 := 0#32
  let c4_i32 : BitVec 32 := 4#32
  let v212 : BitVec 32 := Scalar.addi c0_i32_148 c4_i32
  let c1_i32_149 : BitVec 32 := 1#32
  ⟨c0_i32_148, v212, c1_i32_149⟩
def k0_off21 (k0_t14 : Fin k0_t14_loop.trips) : Fin 3 → Nat :=
  let c0_154 : Index := 0#32
  let c96_i32 : BitVec 32 := 96#32
  let c0_i32_148 : BitVec 32 := 0#32
  let c1_i32_149 : BitVec 32 := 1#32
  let arg7 : BitVec 32 := Scf.iv c0_i32_148 c1_i32_149 k0_t14
  let v216 : BitVec 32 := Scalar.addi c96_i32 arg7
  let v217 : Index := Scalar.indexCast v216
  let c0_155 : Index := 0#32
  ![0, v217.toNat, 0]
@[reducible] def k0_t15_loop : Scf.Loop 32 :=
  let c0_i32_151 : BitVec 32 := 0#32
  let c50_i32 : BitVec 32 := 50#32
  let v214 : BitVec 32 := Scalar.addi c0_i32_151 c50_i32
  let c1_i32_152 : BitVec 32 := 1#32
  ⟨c0_i32_151, v214, c1_i32_152⟩
def k0_off22 (v237 : BitVec 32) : Fin 3 → Nat :=
  let c0_164 : Index := 0#32
  let v251 : Index := Scalar.indexCast v237
  let c0_165 : Index := 0#32
  ![0, v251.toNat, 0]

def k0_chk5 (v237 : BitVec 32) : Prop :=
  (∀ a, (k0_off22 v237) a + S1x1x48.size a ≤ S4x128x48.size a)
theorem k0_off22_inb : ∀ (v237 : BitVec 32) (k0_hw5 : k0_chk5 v237), ∀ a, (k0_off22 v237) a + S1x1x48.size a ≤ S4x128x48.size a := fun v237 k0_hw5 => k0_hw5

def k0_off23 (k0_t15 : Fin k0_t15_loop.trips) : Fin 3 → Nat :=
  let c0_166 : Index := 0#32
  let c0_i32_151 : BitVec 32 := 0#32
  let c1_i32_152 : BitVec 32 := 1#32
  let arg7 : BitVec 32 := Scf.iv c0_i32_151 c1_i32_152 k0_t15
  let v258 : Index := Scalar.indexCast arg7
  let c0_167 : Index := 0#32
  ![0, v258.toNat, 0]
def k0_off24 (v269 : BitVec 32) : Fin 3 → Nat :=
  let c1_174 : Index := 1#32
  let v283 : Index := Scalar.indexCast v269
  let c0_175 : Index := 0#32
  ![1, v283.toNat, 0]

def k0_chk6 (v269 : BitVec 32) : Prop :=
  (∀ a, (k0_off24 v269) a + S1x1x48.size a ≤ S4x128x48.size a)
theorem k0_off24_inb : ∀ (v269 : BitVec 32) (k0_hw6 : k0_chk6 v269), ∀ a, (k0_off24 v269) a + S1x1x48.size a ≤ S4x128x48.size a := fun v269 k0_hw6 => k0_hw6

def k0_off25 (k0_t15 : Fin k0_t15_loop.trips) : Fin 3 → Nat :=
  let c1_176 : Index := 1#32
  let c0_i32_151 : BitVec 32 := 0#32
  let c1_i32_152 : BitVec 32 := 1#32
  let arg7 : BitVec 32 := Scf.iv c0_i32_151 c1_i32_152 k0_t15
  let v290 : Index := Scalar.indexCast arg7
  let c0_177 : Index := 0#32
  ![1, v290.toNat, 0]
def k0_off26 (v301 : BitVec 32) : Fin 3 → Nat :=
  let c2_183 : Index := 2#32
  let v315 : Index := Scalar.indexCast v301
  let c0_184 : Index := 0#32
  ![2, v315.toNat, 0]

def k0_chk7 (v301 : BitVec 32) : Prop :=
  (∀ a, (k0_off26 v301) a + S1x1x48.size a ≤ S4x128x48.size a)
theorem k0_off26_inb : ∀ (v301 : BitVec 32) (k0_hw7 : k0_chk7 v301), ∀ a, (k0_off26 v301) a + S1x1x48.size a ≤ S4x128x48.size a := fun v301 k0_hw7 => k0_hw7

def k0_off27 (k0_t15 : Fin k0_t15_loop.trips) : Fin 3 → Nat :=
  let c2_185 : Index := 2#32
  let c0_i32_151 : BitVec 32 := 0#32
  let c1_i32_152 : BitVec 32 := 1#32
  let arg7 : BitVec 32 := Scf.iv c0_i32_151 c1_i32_152 k0_t15
  let v322 : Index := Scalar.indexCast arg7
  let c0_186 : Index := 0#32
  ![2, v322.toNat, 0]
def k0_off28 (v333 : BitVec 32) : Fin 3 → Nat :=
  let c3_192 : Index := 3#32
  let v347 : Index := Scalar.indexCast v333
  let c0_193 : Index := 0#32
  ![3, v347.toNat, 0]

def k0_chk8 (v333 : BitVec 32) : Prop :=
  (∀ a, (k0_off28 v333) a + S1x1x48.size a ≤ S4x128x48.size a)
theorem k0_off28_inb : ∀ (v333 : BitVec 32) (k0_hw8 : k0_chk8 v333), ∀ a, (k0_off28 v333) a + S1x1x48.size a ≤ S4x128x48.size a := fun v333 k0_hw8 => k0_hw8

def k0_off29 (k0_t15 : Fin k0_t15_loop.trips) : Fin 3 → Nat :=
  let c3_194 : Index := 3#32
  let c0_i32_151 : BitVec 32 := 0#32
  let c1_i32_152 : BitVec 32 := 1#32
  let arg7 : BitVec 32 := Scf.iv c0_i32_151 c1_i32_152 k0_t15
  let v354 : Index := Scalar.indexCast arg7
  let c0_195 : Index := 0#32
  ![3, v354.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x20000x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x50x41 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv31" => some ((31⁻¹ : ℝ) : EReal)
  | _ => none
-- ==== ReferenceIdeal.lean ====
abbrev S4x3x256x256 : Shape := ⟨4, ![4, 3, 256, 256]⟩
abbrev S4x20000x2 : Shape := ⟨3, ![4, 20000, 2]⟩
abbrev S4x20000x4 : Shape := ⟨3, ![4, 20000, 4]⟩
abbrev S4x20000x32 : Shape := ⟨3, ![4, 20000, 32]⟩
abbrev S20000x4 : Shape := ⟨2, ![20000, 4]⟩
abbrev S_ : Shape := ⟨0, ![]⟩
abbrev S4x20000 : Shape := ⟨2, ![4, 20000]⟩
abbrev S4x20000x1 : Shape := ⟨3, ![4, 20000, 1]⟩
abbrev S1x20000x4 : Shape := ⟨3, ![1, 20000, 4]⟩
abbrev S4x100 : Shape := ⟨2, ![4, 100]⟩
abbrev S4 : Shape := ⟨1, ![4]⟩
abbrev S4x1 : Shape := ⟨2, ![4, 1]⟩
abbrev S4x100x1 : Shape := ⟨3, ![4, 100, 1]⟩
abbrev S4x100x2 : Shape := ⟨3, ![4, 100, 2]⟩
abbrev S4x100x4 : Shape := ⟨3, ![4, 100, 4]⟩
abbrev S4x100x32 : Shape := ⟨3, ![4, 100, 32]⟩
abbrev S31 : Shape := ⟨1, ![31]⟩
abbrev S1 : Shape := ⟨1, ![1]⟩
abbrev S32 : Shape := ⟨1, ![32]⟩
abbrev S4x100x1x1 : Shape := ⟨4, ![4, 100, 1, 1]⟩
abbrev S1x1x1x32 : Shape := ⟨4, ![1, 1, 1, 32]⟩
abbrev S4x100x1x32 : Shape := ⟨4, ![4, 100, 1, 32]⟩
abbrev S1x1x32x1 : Shape := ⟨4, ![1, 1, 32, 1]⟩
abbrev S4x100x32x1 : Shape := ⟨4, ![4, 100, 32, 1]⟩
abbrev S4x100x32x32 : Shape := ⟨4, ![4, 100, 32, 32]⟩
abbrev S4x1x100x32x32 : Shape := ⟨5, ![4, 1, 100, 32, 32]⟩
abbrev S4x100x1x32x32 : Shape := ⟨5, ![4, 100, 1, 32, 32]⟩
abbrev S4x100x100x32x32 : Shape := ⟨5, ![4, 100, 100, 32, 32]⟩
abbrev S4x100x100 : Shape := ⟨3, ![4, 100, 100]⟩
abbrev S100x100 : Shape := ⟨2, ![100, 100]⟩
abbrev S4x50 : Shape := ⟨2, ![4, 50]⟩
abbrev S4x50x1 : Shape := ⟨3, ![4, 50, 1]⟩
abbrev S4x50x2 : Shape := ⟨3, ![4, 50, 2]⟩
abbrev S4x50x4 : Shape := ⟨3, ![4, 50, 4]⟩
abbrev S4x50x32 : Shape := ⟨3, ![4, 50, 32]⟩
abbrev S1x1x1 : Shape := ⟨3, ![1, 1, 1]⟩
abbrev S4x50x41 : Shape := ⟨3, ![4, 50, 41]⟩

abbrev nBuf : Space → Nat
  | .hbm => 325
  | .vmem => 0
  | .smem => 0
  | _ => 0

abbrev hbmTy0_0 (i : Nat) : BufTy := match i % 128 with
  | 0 => ⟨S4x3x256x256, .f32⟩
  | 1 => ⟨S4x20000x2, .f32⟩
  | 2 => ⟨S4x20000x4, .f32⟩
  | 3 => ⟨S4x20000x32, .f32⟩
  | 4 => ⟨S20000x4, .f32⟩
  | 5 => ⟨S_, .f32⟩
  | 6 => ⟨S4x20000, .f32⟩
  | 7 => ⟨S_, .f32⟩
  | 8 => ⟨S4x20000, .f32⟩
  | 9 => ⟨S4x20000, .f32⟩
  | 10 => ⟨S4x20000x1, .f32⟩
  | 11 => ⟨S4x20000x2, .f32⟩
  | 12 => ⟨S4x20000x2, .f32⟩
  | 13 => ⟨S4x20000x2, .f32⟩
  | 14 => ⟨S_, .f32⟩
  | 15 => ⟨S4x20000, .f32⟩
  | 16 => ⟨S4x20000x1, .f32⟩
  | 17 => ⟨S4x20000x2, .f32⟩
  | 18 => ⟨S4x20000x2, .f32⟩
  | 19 => ⟨S4x20000x1, .f32⟩
  | 20 => ⟨S4x20000, .f32⟩
  | 21 => ⟨S1x20000x4, .f32⟩
  | 22 => ⟨S4x20000x4, .f32⟩
  | 23 => ⟨S4x100, .f32⟩
  | 24 => ⟨S4x100, .i32⟩
  | 25 => ⟨S4, .i32⟩
  | 26 => ⟨S4x1, .i32⟩
  | 27 => ⟨S_, .i32⟩
  | 28 => ⟨S4x1, .i32⟩
  | 29 => ⟨S4x1, .i1⟩
  | 30 => ⟨S_, .i32⟩
  | 31 => ⟨S4x1, .i32⟩
  | 32 => ⟨S4x1, .i32⟩
  | 33 => ⟨S4x1, .i32⟩
  | 34 => ⟨S_, .i32⟩
  | 35 => ⟨S4x100, .i32⟩
  | 36 => ⟨S4x100, .i1⟩
  | 37 => ⟨S_, .i32⟩
  | 38 => ⟨S4x100, .i32⟩
  | 39 => ⟨S4x100, .i32⟩
  | 40 => ⟨S4x100, .i32⟩
  | 41 => ⟨S4x100, .i32⟩
  | 42 => ⟨S4x100x1, .i32⟩
  | 43 => ⟨S4x100x1, .i32⟩
  | 44 => ⟨S4x100x2, .i32⟩
  | 45 => ⟨S4x100x4, .f32⟩
  | 46 => ⟨S_, .i32⟩
  | 47 => ⟨S4x1, .i32⟩
  | 48 => ⟨S4x1, .i1⟩
  | 49 => ⟨S_, .i32⟩
  | 50 => ⟨S4x1, .i32⟩
  | 51 => ⟨S4x1, .i32⟩
  | 52 => ⟨S4x1, .i32⟩
  | 53 => ⟨S_, .i32⟩
  | 54 => ⟨S4x100, .i32⟩
  | 55 => ⟨S4x100, .i1⟩
  | 56 => ⟨S_, .i32⟩
  | 57 => ⟨S4x100, .i32⟩
  | 58 => ⟨S4x100, .i32⟩
  | 59 => ⟨S4x100, .i32⟩
  | 60 => ⟨S4x100, .i32⟩
  | 61 => ⟨S4x100x1, .i32⟩
  | 62 => ⟨S4x100x1, .i32⟩
  | 63 => ⟨S4x100x2, .i32⟩
  | 64 => ⟨S4x100x32, .f32⟩
  | 65 => ⟨S_, .i32⟩
  | 66 => ⟨S4x1, .i32⟩
  | 67 => ⟨S4x1, .i1⟩
  | 68 => ⟨S_, .i32⟩
  | 69 => ⟨S4x1, .i32⟩
  | 70 => ⟨S4x1, .i32⟩
  | 71 => ⟨S4x1, .i32⟩
  | 72 => ⟨S_, .i32⟩
  | 73 => ⟨S4x100, .i32⟩
  | 74 => ⟨S4x100, .i1⟩
  | 75 => ⟨S_, .i32⟩
  | 76 => ⟨S4x100, .i32⟩
  | 77 => ⟨S4x100, .i32⟩
  | 78 => ⟨S4x100, .i32⟩
  | 79 => ⟨S4x100, .i32⟩
  | 80 => ⟨S4x100x1, .i32⟩
  | 81 => ⟨S4x100x1, .i32⟩
  | 82 => ⟨S4x100x2, .i32⟩
  | 83 => ⟨S4x100x4, .f32⟩
  | 84 => ⟨S4x100x1, .f32⟩
  | 85 => ⟨S4x100, .f32⟩
  | 86 => ⟨S4x100x1, .f32⟩
  | 87 => ⟨S4x100, .f32⟩
  | 88 => ⟨S_, .f32⟩
  | 89 => ⟨S4x100, .f32⟩
  | 90 => ⟨S4x100, .f32⟩
  | 91 => ⟨S4x100x1, .f32⟩
  | 92 => ⟨S4x100, .f32⟩
  | 93 => ⟨S4x100, .f32⟩
  | 94 => ⟨S4x100, .f32⟩
  | 95 => ⟨S4x100x1, .f32⟩
  | 96 => ⟨S4x100, .f32⟩
  | 97 => ⟨S4x100x1, .f32⟩
  | 98 => ⟨S4x100, .f32⟩
  | 99 => ⟨S_, .f32⟩
  | 100 => ⟨S4x100, .f32⟩
  | 101 => ⟨S4x100, .f32⟩
  | 102 => ⟨S4x100x1, .f32⟩
  | 103 => ⟨S4x100, .f32⟩
  | 104 => ⟨S4x100, .f32⟩
  | 105 => ⟨S4x100, .f32⟩
  | 106 => ⟨S4x100x1, .f32⟩
  | 107 => ⟨S4x100, .f32⟩
  | 108 => ⟨S4x100x1, .f32⟩
  | 109 => ⟨S4x100, .f32⟩
  | 110 => ⟨S_, .f32⟩
  | 111 => ⟨S4x100, .f32⟩
  | 112 => ⟨S4x100, .f32⟩
  | 113 => ⟨S4x100, .f32⟩
  | 114 => ⟨S4x100, .f32⟩
  | 115 => ⟨S4x100x1, .f32⟩
  | 116 => ⟨S4x100, .f32⟩
  | 117 => ⟨S4x100x1, .f32⟩
  | 118 => ⟨S4x100, .f32⟩
  | 119 => ⟨S_, .f32⟩
  | 120 => ⟨S4x100, .f32⟩
  | 121 => ⟨S4x100, .f32⟩
  | 122 => ⟨S4x100, .f32⟩
  | 123 => ⟨S4x100, .f32⟩
  | 124 => ⟨S_, .f32⟩
  | 125 => ⟨S_, .f32⟩
  | 126 => ⟨S_, .f32⟩
  | 127 => ⟨S_, .f32⟩
  | _ => ⟨S4x3x256x256, .f32⟩

abbrev hbmTy0_1 (i : Nat) : BufTy := match i % 128 with
  | 0 => ⟨S_, .f32⟩
  | 1 => ⟨S_, .f32⟩
  | 2 => ⟨S_, .f32⟩
  | 3 => ⟨S31, .f32⟩
  | 4 => ⟨S_, .f32⟩
  | 5 => ⟨S31, .f32⟩
  | 6 => ⟨S31, .f32⟩
  | 7 => ⟨S1, .f32⟩
  | 8 => ⟨S_, .f32⟩
  | 9 => ⟨S31, .f32⟩
  | 10 => ⟨S31, .f32⟩
  | 11 => ⟨S31, .f32⟩
  | 12 => ⟨S31, .f32⟩
  | 13 => ⟨S1, .f32⟩
  | 14 => ⟨S31, .f32⟩
  | 15 => ⟨S31, .f32⟩
  | 16 => ⟨S31, .f32⟩
  | 17 => ⟨S1, .f32⟩
  | 18 => ⟨S32, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S31, .f32⟩
  | 27 => ⟨S_, .f32⟩
  | 28 => ⟨S31, .f32⟩
  | 29 => ⟨S31, .f32⟩
  | 30 => ⟨S1, .f32⟩
  | 31 => ⟨S_, .f32⟩
  | 32 => ⟨S31, .f32⟩
  | 33 => ⟨S31, .f32⟩
  | 34 => ⟨S31, .f32⟩
  | 35 => ⟨S31, .f32⟩
  | 36 => ⟨S1, .f32⟩
  | 37 => ⟨S31, .f32⟩
  | 38 => ⟨S31, .f32⟩
  | 39 => ⟨S31, .f32⟩
  | 40 => ⟨S1, .f32⟩
  | 41 => ⟨S32, .f32⟩
  | 42 => ⟨S4x100x1x1, .f32⟩
  | 43 => ⟨S4x100x1x1, .f32⟩
  | 44 => ⟨S4x100x1x1, .f32⟩
  | 45 => ⟨S4x100x1x1, .f32⟩
  | 46 => ⟨S1x1x1x32, .f32⟩
  | 47 => ⟨S4x100x1x32, .f32⟩
  | 48 => ⟨S4x100x1x32, .f32⟩
  | 49 => ⟨S4x100x1x32, .f32⟩
  | 50 => ⟨S4x100x1x32, .f32⟩
  | 51 => ⟨S_, .f32⟩
  | 52 => ⟨S4x100x1x1, .f32⟩
  | 53 => ⟨S4x100x1x1, .f32⟩
  | 54 => ⟨S4x100x1x1, .f32⟩
  | 55 => ⟨S_, .f32⟩
  | 56 => ⟨S4x100x1x1, .f32⟩
  | 57 => ⟨S4x100x1x1, .f32⟩
  | 58 => ⟨S_, .f32⟩
  | 59 => ⟨S4x100x1x1, .f32⟩
  | 60 => ⟨S4x100x1x1, .f32⟩
  | 61 => ⟨S4x100x1x32, .f32⟩
  | 62 => ⟨S4x100x1x32, .f32⟩
  | 63 => ⟨S1x1x32x1, .f32⟩
  | 64 => ⟨S4x100x32x1, .f32⟩
  | 65 => ⟨S4x100x32x1, .f32⟩
  | 66 => ⟨S4x100x32x1, .f32⟩
  | 67 => ⟨S4x100x32x1, .f32⟩
  | 68 => ⟨S_, .f32⟩
  | 69 => ⟨S4x100x1x1, .f32⟩
  | 70 => ⟨S4x100x1x1, .f32⟩
  | 71 => ⟨S4x100x1x1, .f32⟩
  | 72 => ⟨S_, .f32⟩
  | 73 => ⟨S4x100x1x1, .f32⟩
  | 74 => ⟨S4x100x1x1, .f32⟩
  | 75 => ⟨S_, .f32⟩
  | 76 => ⟨S4x100x1x1, .f32⟩
  | 77 => ⟨S4x100x1x1, .f32⟩
  | 78 => ⟨S4x100x32x1, .f32⟩
  | 79 => ⟨S4x100x32x1, .f32⟩
  | 80 => ⟨S4x100x32x32, .f32⟩
  | 81 => ⟨S4x100x32x32, .f32⟩
  | 82 => ⟨S4x100x32x32, .f32⟩
  | 83 => ⟨S4x100x32x32, .f32⟩
  | 84 => ⟨S4x100x32x32, .f32⟩
  | 85 => ⟨S4x1x100x32x32, .f32⟩
  | 86 => ⟨S4x100x1x32x32, .f32⟩
  | 87 => ⟨S4x100x100x32x32, .f32⟩
  | 88 => ⟨S4x100x100x32x32, .f32⟩
  | 89 => ⟨S4x100x100x32x32, .f32⟩
  | 90 => ⟨S_, .f32⟩
  | 91 => ⟨S4x100x100, .f32⟩
  | 92 => ⟨S4x100x100x32x32, .f32⟩
  | 93 => ⟨S4x100x100x32x32, .f32⟩
  | 94 => ⟨S4x100x100x32x32, .f32⟩
  | 95 => ⟨S_, .f32⟩
  | 96 => ⟨S4x100x100, .f32⟩
  | 97 => ⟨S_, .f32⟩
  | 98 => ⟨S4x100x100, .f32⟩
  | 99 => ⟨S4x100x100, .f32⟩
  | 100 => ⟨S4x100x100, .f32⟩
  | 101 => ⟨S100x100, .i32⟩
  | 102 => ⟨S_, .i32⟩
  | 103 => ⟨S100x100, .i32⟩
  | 104 => ⟨S100x100, .i32⟩
  | 105 => ⟨S100x100, .i32⟩
  | 106 => ⟨S100x100, .i1⟩
  | 107 => ⟨S4x100x100, .i1⟩
  | 108 => ⟨S_, .f32⟩
  | 109 => ⟨S4x100x100, .f32⟩
  | 110 => ⟨S4x100x100, .f32⟩
  | 111 => ⟨S_, .f32⟩
  | 112 => ⟨S4x100, .f32⟩
  | 113 => ⟨S4x100, .f32⟩
  | 114 => ⟨S4x50, .f32⟩
  | 115 => ⟨S4x50, .i32⟩
  | 116 => ⟨S_, .i32⟩
  | 117 => ⟨S4x1, .i32⟩
  | 118 => ⟨S4x1, .i1⟩
  | 119 => ⟨S_, .i32⟩
  | 120 => ⟨S4x1, .i32⟩
  | 121 => ⟨S4x1, .i32⟩
  | 122 => ⟨S4x1, .i32⟩
  | 123 => ⟨S_, .i32⟩
  | 124 => ⟨S4x50, .i32⟩
  | 125 => ⟨S4x50, .i1⟩
  | 126 => ⟨S_, .i32⟩
  | 127 => ⟨S4x50, .i32⟩
  | _ => ⟨S4x3x256x256, .f32⟩

abbrev hbmTy0_2 (i : Nat) : BufTy := match i % 128 with
  | 0 => ⟨S4x50, .i32⟩
  | 1 => ⟨S4x50, .i32⟩
  | 2 => ⟨S4x50, .i32⟩
  | 3 => ⟨S4x50x1, .i32⟩
  | 4 => ⟨S4x50x1, .i32⟩
  | 5 => ⟨S4x50x2, .i32⟩
  | 6 => ⟨S4x50x4, .f32⟩
  | 7 => ⟨S_, .i32⟩
  | 8 => ⟨S4x1, .i32⟩
  | 9 => ⟨S4x1, .i1⟩
  | 10 => ⟨S_, .i32⟩
  | 11 => ⟨S4x1, .i32⟩
  | 12 => ⟨S4x1, .i32⟩
  | 13 => ⟨S4x1, .i32⟩
  | 14 => ⟨S_, .i32⟩
  | 15 => ⟨S4x50, .i32⟩
  | 16 => ⟨S4x50, .i1⟩
  | 17 => ⟨S_, .i32⟩
  | 18 => ⟨S4x50, .i32⟩
  | 19 => ⟨S4x50, .i32⟩
  | 20 => ⟨S4x50, .i32⟩
  | 21 => ⟨S4x50, .i32⟩
  | 22 => ⟨S4x50x1, .i32⟩
  | 23 => ⟨S4x50x1, .i32⟩
  | 24 => ⟨S4x50x2, .i32⟩
  | 25 => ⟨S4x50x32, .f32⟩
  | 26 => ⟨S_, .i32⟩
  | 27 => ⟨S4x1, .i32⟩
  | 28 => ⟨S4x1, .i1⟩
  | 29 => ⟨S_, .i32⟩
  | 30 => ⟨S4x1, .i32⟩
  | 31 => ⟨S4x1, .i32⟩
  | 32 => ⟨S4x1, .i32⟩
  | 33 => ⟨S_, .i32⟩
  | 34 => ⟨S4x50, .i32⟩
  | 35 => ⟨S4x50, .i1⟩
  | 36 => ⟨S_, .i32⟩
  | 37 => ⟨S4x50, .i32⟩
  | 38 => ⟨S4x50, .i32⟩
  | 39 => ⟨S4x50, .i32⟩
  | 40 => ⟨S4x50, .i32⟩
  | 41 => ⟨S4x50x1, .i32⟩
  | 42 => ⟨S4x50x1, .i32⟩
  | 43 => ⟨S4x50x2, .i32⟩
  | 44 => ⟨S4x50x4, .f32⟩
  | 45 => ⟨S_, .i32⟩
  | 46 => ⟨S4x50, .i32⟩
  | 47 => ⟨S4x50, .i1⟩
  | 48 => ⟨S_, .i32⟩
  | 49 => ⟨S4x50, .i32⟩
  | 50 => ⟨S4x50, .i32⟩
  | 51 => ⟨S4x50, .i32⟩
  | 52 => ⟨S4x50x1, .i32⟩
  | 53 => ⟨S1, .i32⟩
  | 54 => ⟨S_, .i32⟩
  | 55 => ⟨S4x50x1, .i32⟩
  | 56 => ⟨S4x50x1, .i1⟩
  | 57 => ⟨S1x1x1, .i32⟩
  | 58 => ⟨S4x50x1, .i32⟩
  | 59 => ⟨S4x50x1, .i1⟩
  | 60 => ⟨S4x50x1, .i1⟩
  | 61 => ⟨S_, .i1⟩
  | 62 => ⟨S4x50, .i1⟩
  | 63 => ⟨S4x50, .f32⟩
  | 64 => ⟨S_, .f32⟩
  | 65 => ⟨S4x50, .f32⟩
  | 66 => ⟨S4x50, .f32⟩
  | 67 => ⟨S4x50x1, .f32⟩
  | 68 => ⟨S4x50x41, .f32⟩
  | _ => ⟨S4x3x256x256, .f32⟩

abbrev hbmTy (i : Nat) : BufTy := match i / 128 with
  | 0 => hbmTy0_0 i
  | 1 => hbmTy0_1 i
  | 2 => hbmTy0_2 i
  | _ => ⟨S4x3x256x256, .f32⟩

abbrev bufTy : (tb : Table) → Fin (tcTables nBuf tb) → BufTy
  | .hbm, ⟨i, _⟩ => hbmTy i
  | _, _ => ⟨S4x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_values : Ref sig .tc := ⟨.hbm, 23, rfl⟩
abbrev main_indices : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_14 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_15 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_16 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_17 : Ref sig .tc := ⟨.hbm, 124, rfl⟩
abbrev main_cst_18 : Ref sig .tc := ⟨.hbm, 125, rfl⟩
abbrev main_call0_v0 : Ref sig .tc := ⟨.hbm, 126, rfl⟩
abbrev main_call0_v1 : Ref sig .tc := ⟨.hbm, 127, rfl⟩
abbrev main_call0_v2 : Ref sig .tc := ⟨.hbm, 128, rfl⟩
abbrev main_call0_cst : Ref sig .tc := ⟨.hbm, 129, rfl⟩
abbrev main_call0_v3 : Ref sig .tc := ⟨.hbm, 130, rfl⟩
abbrev main_call0_v4 : Ref sig .tc := ⟨.hbm, 131, rfl⟩
abbrev main_call0_cst_0 : Ref sig .tc := ⟨.hbm, 132, rfl⟩
abbrev main_call0_v5 : Ref sig .tc := ⟨.hbm, 133, rfl⟩
abbrev main_call0_v6 : Ref sig .tc := ⟨.hbm, 134, rfl⟩
abbrev main_call0_v7 : Ref sig .tc := ⟨.hbm, 135, rfl⟩
abbrev main_call0_cst_1 : Ref sig .tc := ⟨.hbm, 136, rfl⟩
abbrev main_call0_v8 : Ref sig .tc := ⟨.hbm, 137, rfl⟩
abbrev main_call0_v9 : Ref sig .tc := ⟨.hbm, 138, rfl⟩
abbrev main_call0_v10 : Ref sig .tc := ⟨.hbm, 139, rfl⟩
abbrev main_call0_v11 : Ref sig .tc := ⟨.hbm, 140, rfl⟩
abbrev main_call0_v12 : Ref sig .tc := ⟨.hbm, 141, rfl⟩
abbrev main_call0_v13 : Ref sig .tc := ⟨.hbm, 142, rfl⟩
abbrev main_call0_v14 : Ref sig .tc := ⟨.hbm, 143, rfl⟩
abbrev main_call0_v15 : Ref sig .tc := ⟨.hbm, 144, rfl⟩
abbrev main_call0_v16 : Ref sig .tc := ⟨.hbm, 145, rfl⟩
abbrev main_v98 : Ref sig .tc := ⟨.hbm, 146, rfl⟩
abbrev main_cst_19 : Ref sig .tc := ⟨.hbm, 147, rfl⟩
abbrev main_cst_20 : Ref sig .tc := ⟨.hbm, 148, rfl⟩
abbrev main_call1_v0 : Ref sig .tc := ⟨.hbm, 149, rfl⟩
abbrev main_call1_v1 : Ref sig .tc := ⟨.hbm, 150, rfl⟩
abbrev main_call1_v2 : Ref sig .tc := ⟨.hbm, 151, rfl⟩
abbrev main_call1_cst : Ref sig .tc := ⟨.hbm, 152, rfl⟩
abbrev main_call1_v3 : Ref sig .tc := ⟨.hbm, 153, rfl⟩
abbrev main_call1_v4 : Ref sig .tc := ⟨.hbm, 154, rfl⟩
abbrev main_call1_cst_0 : Ref sig .tc := ⟨.hbm, 155, rfl⟩
abbrev main_call1_v5 : Ref sig .tc := ⟨.hbm, 156, rfl⟩
abbrev main_call1_v6 : Ref sig .tc := ⟨.hbm, 157, rfl⟩
abbrev main_call1_v7 : Ref sig .tc := ⟨.hbm, 158, rfl⟩
abbrev main_call1_cst_1 : Ref sig .tc := ⟨.hbm, 159, rfl⟩
abbrev main_call1_v8 : Ref sig .tc := ⟨.hbm, 160, rfl⟩
abbrev main_call1_v9 : Ref sig .tc := ⟨.hbm, 161, rfl⟩
abbrev main_call1_v10 : Ref sig .tc := ⟨.hbm, 162, rfl⟩
abbrev main_call1_v11 : Ref sig .tc := ⟨.hbm, 163, rfl⟩
abbrev main_call1_v12 : Ref sig .tc := ⟨.hbm, 164, rfl⟩
abbrev main_call1_v13 : Ref sig .tc := ⟨.hbm, 165, rfl⟩
abbrev main_call1_v14 : Ref sig .tc := ⟨.hbm, 166, rfl⟩
abbrev main_call1_v15 : Ref sig .tc := ⟨.hbm, 167, rfl⟩
abbrev main_call1_v16 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_cst_21 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_cst_22 : Ref sig .tc := ⟨.hbm, 183, rfl⟩
abbrev main_v112 : Ref sig .tc := ⟨.hbm, 184, rfl⟩
abbrev main_v113 : Ref sig .tc := ⟨.hbm, 185, rfl⟩
abbrev main_cst_23 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_cst_24 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_cst_25 : Ref sig .tc := ⟨.hbm, 200, rfl⟩
abbrev main_v126 : Ref sig .tc := ⟨.hbm, 201, rfl⟩
abbrev main_v127 : Ref sig .tc := ⟨.hbm, 202, rfl⟩
abbrev main_cst_26 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_cst_27 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_cst_28 : Ref sig .tc := ⟨.hbm, 223, rfl⟩
abbrev main_v146 : Ref sig .tc := ⟨.hbm, 224, rfl⟩
abbrev main_cst_29 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_call2_v0 : Ref sig .tc := ⟨.hbm, 229, rfl⟩
abbrev main_call2_c : Ref sig .tc := ⟨.hbm, 230, rfl⟩
abbrev main_call2_v1 : Ref sig .tc := ⟨.hbm, 231, rfl⟩
abbrev main_call2_v2 : Ref sig .tc := ⟨.hbm, 232, rfl⟩
abbrev main_call2_v3 : Ref sig .tc := ⟨.hbm, 233, rfl⟩
abbrev main_call2_v4 : Ref sig .tc := ⟨.hbm, 234, rfl⟩
abbrev main_call2_v5 : Ref sig .tc := ⟨.hbm, 235, rfl⟩
abbrev main_call2_cst : Ref sig .tc := ⟨.hbm, 236, rfl⟩
abbrev main_call2_v6 : Ref sig .tc := ⟨.hbm, 237, rfl⟩
abbrev main_v150 : Ref sig .tc := ⟨.hbm, 238, rfl⟩
abbrev main_cst_30 : Ref sig .tc := ⟨.hbm, 239, rfl⟩
abbrev main_v151 : Ref sig .tc := ⟨.hbm, 240, rfl⟩
abbrev main_v152 : Ref sig .tc := ⟨.hbm, 241, rfl⟩
abbrev main_values_31 : Ref sig .tc := ⟨.hbm, 242, rfl⟩
abbrev main_indices_32 : Ref sig .tc := ⟨.hbm, 243, rfl⟩
abbrev main_c_33 : Ref sig .tc := ⟨.hbm, 244, rfl⟩
abbrev main_v153 : Ref sig .tc := ⟨.hbm, 245, rfl⟩
abbrev main_v154 : Ref sig .tc := ⟨.hbm, 246, rfl⟩
abbrev main_c_34 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_c_35 : Ref sig .tc := ⟨.hbm, 251, rfl⟩
abbrev main_v158 : Ref sig .tc := ⟨.hbm, 252, rfl⟩
abbrev main_v159 : Ref sig .tc := ⟨.hbm, 253, rfl⟩
abbrev main_c_36 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_c_37 : Ref sig .tc := ⟨.hbm, 263, rfl⟩
abbrev main_v168 : Ref sig .tc := ⟨.hbm, 264, rfl⟩
abbrev main_v169 : Ref sig .tc := ⟨.hbm, 265, rfl⟩
abbrev main_c_38 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_c_39 : Ref sig .tc := ⟨.hbm, 270, rfl⟩
abbrev main_v173 : Ref sig .tc := ⟨.hbm, 271, rfl⟩
abbrev main_v174 : Ref sig .tc := ⟨.hbm, 272, rfl⟩
abbrev main_c_40 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_c_41 : Ref sig .tc := ⟨.hbm, 282, rfl⟩
abbrev main_v183 : Ref sig .tc := ⟨.hbm, 283, rfl⟩
abbrev main_v184 : Ref sig .tc := ⟨.hbm, 284, rfl⟩
abbrev main_c_42 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_c_43 : Ref sig .tc := ⟨.hbm, 289, rfl⟩
abbrev main_v188 : Ref sig .tc := ⟨.hbm, 290, rfl⟩
abbrev main_v189 : Ref sig .tc := ⟨.hbm, 291, rfl⟩
abbrev main_c_44 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_call3_c : Ref sig .tc := ⟨.hbm, 301, rfl⟩
abbrev main_call3_v0 : Ref sig .tc := ⟨.hbm, 302, rfl⟩
abbrev main_call3_v1 : Ref sig .tc := ⟨.hbm, 303, rfl⟩
abbrev main_call3_c_0 : Ref sig .tc := ⟨.hbm, 304, rfl⟩
abbrev main_call3_v2 : Ref sig .tc := ⟨.hbm, 305, rfl⟩
abbrev main_call3_v3 : Ref sig .tc := ⟨.hbm, 306, rfl⟩
abbrev main_call3_v4 : Ref sig .tc := ⟨.hbm, 307, rfl⟩
abbrev main_call3_v5 : Ref sig .tc := ⟨.hbm, 308, rfl⟩
abbrev main_call3_c_1 : Ref sig .tc := ⟨.hbm, 309, rfl⟩
abbrev main_call3_c_2 : Ref sig .tc := ⟨.hbm, 310, rfl⟩
abbrev main_call3_v6 : Ref sig .tc := ⟨.hbm, 311, rfl⟩
abbrev main_call3_v7 : Ref sig .tc := ⟨.hbm, 312, rfl⟩
abbrev main_call3_v8 : Ref sig .tc := ⟨.hbm, 313, rfl⟩
abbrev main_call3_v9 : Ref sig .tc := ⟨.hbm, 314, rfl⟩
abbrev main_call3_v10 : Ref sig .tc := ⟨.hbm, 315, rfl⟩
abbrev main_call3_v11 : Ref sig .tc := ⟨.hbm, 316, rfl⟩
abbrev main_call3_c_3 : Ref sig .tc := ⟨.hbm, 317, rfl⟩
abbrev main_call3_v12 : Ref sig .tc := ⟨.hbm, 318, rfl⟩
abbrev main_call3_v13 : Ref sig .tc := ⟨.hbm, 319, rfl⟩
abbrev main_call3_cst : Ref sig .tc := ⟨.hbm, 320, rfl⟩
abbrev main_call3_v14 : Ref sig .tc := ⟨.hbm, 321, rfl⟩
abbrev main_v198 : Ref sig .tc := ⟨.hbm, 322, rfl⟩
abbrev main_v199 : Ref sig .tc := ⟨.hbm, 323, rfl⟩
abbrev main_v200 : Ref sig .tc := ⟨.hbm, 324, rfl⟩

abbrev nD : Nat := 1
abbrev τ : Topo := Topo.v7x

variable {F : FTy → Type} [FloatOps F]
-- ==== Proof.Words.lean ====
/- Words and indices: the sum that picks one batch's word out of four, and the signed minimum of many words.
   Stated for any shape facts, so that every program's lemma is one application. -/
module

public import Idealize.ShloMosaic.Lib.Pointwise
public import Idealize.ShloMosaic.PureOps.Reduce

@[expose] public section

noncomputable section

namespace Cert.Proof

open Idealize.ShloMosaic

/-- Every index of a [1,4,1,1] shape is `ix4 0 k 0 0`, so the sum of all its words is the sum of four. -/
theorem fold_addi_four (h : (⟨4, ![1, 4, 1, 1]⟩ : Shape).Reduces [1, 2, 3] ⟨1, ![1]⟩) (j : (⟨1, ![1]⟩ : Shape).Idx)
    (f : (⟨4, ![1, 4, 1, 1]⟩ : Shape).Idx → BitVec 32) :
    (Finset.univ.filter fun i => h.drop i = j).fold IntOp.addi 0#32 f
      = f (ix4 0 0 0 0) + (f (ix4 0 1 0 0) + (f (ix4 0 2 0 0) + (f (ix4 0 3 0 0) + 0#32))) := by
  have hs : (Finset.univ.filter fun i => h.drop i = j)
      = Finset.univ.map (⟨fun k : Fin 4 => (ix4 0 k 0 0 : (⟨4, ![1, 4, 1, 1]⟩ : Shape).Idx), fun a b hab => by
          have := congrFun hab 1; exact this⟩ : Fin 4 ↪ (⟨4, ![1, 4, 1, 1]⟩ : Shape).Idx) := by
    ext i
    have h1 : h.drop i = j := funext fun a => by
      fin_cases a; exact Subsingleton.elim (α := Fin 1) _ _
    simp only [Finset.mem_filter, Finset.mem_univ, h1, and_self, Finset.mem_map, true_and, true_iff]
    refine ⟨i 1, ?_⟩
    funext a
    fin_cases a
    · exact Subsingleton.elim (α := Fin 1) _ _
    · rfl
    · exact Subsingleton.elim (α := Fin 1) _ _
    · exact Subsingleton.elim (α := Fin 1) _ _
  rw [hs, Finset.fold_map]
  rfl

/-- The words of the batch numbers 0..3 that equal `b`: the sum over the batches of "the word where the batch is `b`, else
    zero" is batch `b`'s word. -/
theorem pick_word (w : Fin 4 → BitVec 32) (b : Fin 4) (c : BitVec 32) (hc : c = BitVec.ofNat 32 b.val) :
    (Scalar.select (IntOp.cmpi .eq (BitVec.ofNat 32 (0 : Fin 4).val) c) (w 0) 0#32
      + (Scalar.select (IntOp.cmpi .eq (BitVec.ofNat 32 (1 : Fin 4).val) c) (w 1) 0#32
        + (Scalar.select (IntOp.cmpi .eq (BitVec.ofNat 32 (2 : Fin 4).val) c) (w 2) 0#32
          + (Scalar.select (IntOp.cmpi .eq (BitVec.ofNat 32 (3 : Fin 4).val) c) (w 3) 0#32 + 0#32)))) = w b := by
  subst hc
  fin_cases b <;> simp [Scalar.select, IntOp.cmpi]

/-- A minimum of words read signed is the minimum of the words read signed. -/
theorem toInt_fold_minsi {ι : Type} (s : Finset ι) (b : BitVec 32) (f : ι → BitVec 32) :
    (s.fold IntOp.minsi b f).toInt = s.fold min b.toInt fun i => (f i).toInt := by
  refine (Finset.fold_hom (m := BitVec.toInt) fun x y => ?_).symm
  unfold IntOp.minsi
  split_ifs with h
  · rw [BitVec.slt_iff_toInt_lt] at h; omega
  · rw [BitVec.slt_iff_toInt_lt] at h; omega

/-- A word that reads signed between 0 and `n` reads unsigned at most `n`. -/
theorem toNat_le_of_toInt {w : BitVec 32} {n : ℕ} (h0 : 0 ≤ w.toInt) (h1 : w.toInt ≤ n) : w.toNat ≤ n := by
  rw [BitVec.toInt_eq_toNat_cond] at h0 h1
  split_ifs at h0 h1 <;> omega

/-- A select between two words read signed, by the bit. -/
theorem toInt_select (c : BitVec 1) (x y : BitVec 32) : (Scalar.select c x y).toInt = if c = 1#1 then x.toInt else y.toInt := by
  unfold Scalar.select
  rcases BitVec.eq_zero_or_eq_one c with h | h <;> simp [h]

/-- The linear index of element (i, j) of a [160, 128] tile, as the kernel computes it in words, read signed. -/
theorem toInt_lin (i : Fin 160) (j : Fin 128) :
    (IntOp.addi (IntOp.muli (BitVec.ofNat 32 i.val) 128#32) (BitVec.ofNat 32 j.val)).toInt = 128 * i.val + j.val := by
  have hi := i.isLt; have hj := j.isLt
  have h : IntOp.addi (IntOp.muli (BitVec.ofNat 32 i.val) 128#32) (BitVec.ofNat 32 j.val)
      = BitVec.ofNat 32 (128 * i.val + j.val) := by
    unfold IntOp.addi IntOp.muli
    apply BitVec.eq_of_toNat_eq
    simp only [BitVec.toNat_add, BitVec.toNat_mul, BitVec.toNat_ofNat]
    omega
  have hb : 128 * i.val + j.val < 20480 := by omega
  have hc : (128 * (i.val : ℤ) + (j.val : ℤ)) = ((128 * i.val + j.val : ℕ) : ℤ) := by push_cast; rfl
  rw [h, hc, BitVec.toInt_ofNat']
  generalize 128 * i.val + j.val = n at hb
  rw [Int.bmod_eq_of_le] <;> omega

/-- A lane number as a word, read signed. -/
theorem toInt_lane (j : Fin 128) : (BitVec.ofNat 32 j.val).toInt = j.val := by
  have hj := j.isLt
  rw [BitVec.toInt_ofNat', Int.bmod_eq_of_le] <;> (push_cast; omega)

/-- The least linear index where the condition holds, 19999 standing in where it does not, read signed. -/
theorem toInt_least (c : Fin 160 → Fin 128 → BitVec 1) :
    (Finset.fold IntOp.minsi (2147483647#32) (fun i : Fin 160 => Finset.fold IntOp.minsi (2147483647#32)
      (fun j : Fin 128 => Scalar.select (c i j)
        (IntOp.addi (IntOp.muli (BitVec.ofNat 32 i.val) 128#32) (BitVec.ofNat 32 j.val)) 19999#32) Finset.univ) Finset.univ).toInt
    = Finset.fold min (2147483647 : ℤ) (fun i : Fin 160 => Finset.fold min (2147483647 : ℤ)
      (fun j : Fin 128 => if c i j = 1#1 then (128 * i.val + j.val : ℤ) else 19999) Finset.univ) Finset.univ := by
  rw [toInt_fold_minsi]
  refine Finset.fold_congr fun i _ => ?_
  rw [toInt_fold_minsi]
  refine Finset.fold_congr fun j _ => ?_
  rw [toInt_select, toInt_lin]
  rfl

/-- The least such index is a row number of the 20000: the first element is index 0 or stands in as 19999. -/
theorem least_toNat_le (c : Fin 160 → Fin 128 → BitVec 1) :
    (Finset.fold IntOp.minsi (2147483647#32) (fun i : Fin 160 => Finset.fold IntOp.minsi (2147483647#32)
      (fun j : Fin 128 => Scalar.select (c i j)
        (IntOp.addi (IntOp.muli (BitVec.ofNat 32 i.val) 128#32) (BitVec.ofNat 32 j.val)) 19999#32) Finset.univ) Finset.univ).toNat
      ≤ 19999 := by
  refine toNat_le_of_toInt ?_ ?_
  · rw [toInt_least, Finset.le_fold_min]
    refine ⟨by norm_num, fun i _ => ?_⟩
    rw [Finset.le_fold_min]
    refine ⟨by norm_num, fun j _ => ?_⟩
    split_ifs <;> omega
  · rw [toInt_least, Finset.fold_min_le]
    refine .inr ⟨0, Finset.mem_univ _, ?_⟩
    rw [Finset.fold_min_le]
    refine .inr ⟨0, Finset.mem_univ _, ?_⟩
    split_ifs <;> simp

/-- The least lane where the condition holds, 127 standing in where it does not, read signed. The tile's middle axis has
one row. -/
theorem toInt_leastLane (c : Fin 1 → Fin 128 → BitVec 1) :
    (Finset.fold IntOp.minsi (2147483647#32) (fun i : Fin 1 => Finset.fold IntOp.minsi (2147483647#32)
      (fun j : Fin 128 => Scalar.select (c i j) (BitVec.ofNat 32 j.val) 127#32) Finset.univ) Finset.univ).toInt
    = Finset.fold min (2147483647 : ℤ) (fun i : Fin 1 => Finset.fold min (2147483647 : ℤ)
      (fun j : Fin 128 => if c i j = 1#1 then (j.val : ℤ) else 127) Finset.univ) Finset.univ := by
  rw [toInt_fold_minsi]
  refine Finset.fold_congr fun i _ => ?_
  rw [toInt_fold_minsi]
  refine Finset.fold_congr fun j _ => ?_
  rw [toInt_select, toInt_lane]
  rfl

/-- The least such lane is one of the 128. -/
theorem leastLane_toNat_le (c : Fin 1 → Fin 128 → BitVec 1) :
    (Finset.fold IntOp.minsi (2147483647#32) (fun i : Fin 1 => Finset.fold IntOp.minsi (2147483647#32)
      (fun j : Fin 128 => Scalar.select (c i j) (BitVec.ofNat 32 j.val) 127#32) Finset.univ) Finset.univ).toNat ≤ 127 := by
  refine toNat_le_of_toInt ?_ ?_
  · rw [toInt_leastLane, Finset.le_fold_min]
    refine ⟨by norm_num, fun i _ => ?_⟩
    rw [Finset.le_fold_min]
    refine ⟨by norm_num, fun j _ => ?_⟩
    split_ifs <;> omega
  · rw [toInt_leastLane, Finset.fold_min_le]
    refine .inr ⟨0, Finset.mem_univ _, ?_⟩
    rw [Finset.fold_min_le]
    refine .inr ⟨0, Finset.mem_univ _, ?_⟩
    split_ifs <;> simp

end Cert.Proof
-- ==== Proof.Picks.lean ====
module

public import proofs.«01_k».proof.Proof.Gen.KernelIdeal.Skeleton
public import proofs.«01_k».proof.Proof.Words

@[expose] public section

noncomputable section

namespace Cert.Proof.KernelIdeal
open Cert.KernelIdeal Cert.KernelIdeal.Gen
open Idealize.ShloMosaic Idealize.ShloMosaic.TcCoe Idealize.ShloMosaic.Tactic
variable {F : FTy → Type} [FloatOps F] [Named F]

/-- The batch numbers 0..3, as the kernel makes them. -/
abbrev biota : IVec S4x1x1 32 := iota .tc S4x1x1 32 [0] iota_S4x1x1_d0_w32
/-- The lane numbers 0..127, as the kernel makes them. -/
abbrev liota : IVec S1x1x128 32 := iota .tc S1x1x128 32 [2] iota_S1x1x128_d2_w32

/-- In the selection, the number that the kernel sums out for batch 0 is the one picked in batch 0. -/
theorem word8 (v4 : IVec S1x160x128 32) (x : FVec F S4x160x128 .f32) :
    extractAt ![0, 0, 0, 0] (k0_pay8 v4 biota x) inpos_S1x1x1x1_p0_0_0_0 = k0_pay6 v4 x (ix3 0 0 0) := by
  unfold extractAt; pointwise [k0_pay8]; rw [fold_addi_four]
  exact pick_word (fun b => k0_pay6 v4 x (ix3 b 0 0)) 0 0#32 rfl
/-- In the selection, the number that the kernel sums out for batch 1 is the one picked in batch 1. -/
theorem word10 (v4 : IVec S1x160x128 32) (x : FVec F S4x160x128 .f32) :
    extractAt ![0, 0, 0, 0] (k0_pay11 (k0_pay10 v4 biota x)) inpos_S1x1x1x1_p0_0_0_0 = k0_pay6 v4 x (ix3 1 0 0) := by
  unfold extractAt; pointwise [k0_pay11, k0_pay10]; rw [fold_addi_four]
  exact pick_word (fun b => k0_pay6 v4 x (ix3 b 0 0)) 1 1#32 rfl
/-- In the selection, the number that the kernel sums out for batch 2 is the one picked in batch 2. -/
theorem word13 (v : IVec S4x1x1 32) :
    extractAt ![0, 0, 0, 0] (k0_pay13 biota v) inpos_S1x1x1x1_p0_0_0_0 = v (ix3 2 0 0) := by
  unfold extractAt; pointwise [k0_pay13]; rw [fold_addi_four]
  exact pick_word (fun b => v (ix3 b 0 0)) 2 2#32 rfl
/-- In the selection, the number that the kernel sums out for batch 3 is the one picked in batch 3. -/
theorem word15 (v : IVec S4x1x1 32) :
    extractAt ![0, 0, 0, 0] (k0_pay15 biota v) inpos_S1x1x1x1_p0_0_0_0 = v (ix3 3 0 0) := by
  unfold extractAt; pointwise [k0_pay15]; rw [fold_addi_four]
  exact pick_word (fun b => v (ix3 b 0 0)) 3 3#32 rfl
/-- In the writing, the number that the kernel sums out for batch 0 is the one picked in batch 0. -/
theorem word18 (v6 : IVec S1x1x128 32) (x : FVec F S4x1x128 .f32) :
    extractAt ![0, 0, 0, 0] (k0_pay18 biota v6 x) inpos_S1x1x1x1_p0_0_0_0 = k0_pay17 v6 x (ix3 0 0 0) := by
  unfold extractAt; pointwise [k0_pay18]; rw [fold_addi_four]
  exact pick_word (fun b => k0_pay17 v6 x (ix3 b 0 0)) 0 0#32 rfl
/-- In the writing, the number that the kernel sums out for batch 1 is the one picked in batch 1. -/
theorem word21 (v : IVec S4x1x1 32) :
    extractAt ![0, 0, 0, 0] (k0_pay21 biota v) inpos_S1x1x1x1_p0_0_0_0 = v (ix3 1 0 0) := by
  unfold extractAt; pointwise [k0_pay21]; rw [fold_addi_four]
  exact pick_word (fun b => v (ix3 b 0 0)) 1 1#32 rfl
/-- In the writing, the number that the kernel sums out for batch 2 is the one picked in batch 2. -/
theorem word23 (v : IVec S4x1x1 32) :
    extractAt ![0, 0, 0, 0] (k0_pay23 biota v) inpos_S1x1x1x1_p0_0_0_0 = v (ix3 2 0 0) := by
  unfold extractAt; pointwise [k0_pay23]; rw [fold_addi_four]
  exact pick_word (fun b => v (ix3 b 0 0)) 2 2#32 rfl
/-- In the writing, the number that the kernel sums out for batch 3 is the one picked in batch 3. -/
theorem word25 (v : IVec S4x1x1 32) :
    extractAt ![0, 0, 0, 0] (k0_pay25 biota v) inpos_S1x1x1x1_p0_0_0_0 = v (ix3 3 0 0) := by
  unfold extractAt; pointwise [k0_pay25]; rw [fold_addi_four]
  exact pick_word (fun b => v (ix3 b 0 0)) 3 3#32 rfl

/-- The row number picked is one of the 20000. -/
theorem pay6_le (x : FVec F S4x160x128 .f32) (b : Fin 4) : (k0_pay6 k0_pay27 x (ix3 b 0 0)).toNat ≤ 19999 := by
  pointwise [k0_pay6, k0_pay27]
  exact least_toNat_le fun i j => FloatOps.cmpf .oeq (x (ix3 b i j)) (k0_pay5 x (ix3 b 0 0))
/-- The lane picked is one of the 128. -/
theorem pay17_le (x : FVec F S4x1x128 .f32) (b : Fin 4) : (k0_pay17 liota x (ix3 b 0 0)).toNat ≤ 127 := by
  pointwise [k0_pay17]
  exact leastLane_toNat_le _

/-- A row number below 20000 keeps the row load of batch 0, 1, 2, 3 inside. -/
theorem rows_inb (v : BitVec 32) (h : v.toNat ≤ 19999) : k0_chk1 v ∧ k0_chk2 v ∧ k0_chk3 v ∧ k0_chk4 v := by
  refine ⟨?_, ?_, ?_, ?_⟩ <;> intro a <;> fin_cases a <;>
    simp [k0_off1, k0_off3, k0_off5, k0_off7, Scalar.indexCast] <;> omega
/-- A lane number below 128 keeps the row load of batch 0, 1, 2, 3 inside. -/
theorem lanes_inb (v : BitVec 32) (h : v.toNat ≤ 127) : k0_chk5 v ∧ k0_chk6 v ∧ k0_chk7 v ∧ k0_chk8 v := by
  refine ⟨?_, ?_, ?_, ?_⟩ <;> intro a <;> fin_cases a <;>
    simp [k0_off22, k0_off24, k0_off26, k0_off28, Scalar.indexCast] <;> omega

/-- The row load of batch 0 in the selection is inside its array. -/
theorem chk1 (x : FVec F S4x160x128 .f32) : k0_chk1 (extractAt ![0, 0, 0, 0] (k0_pay8 k0_pay27 biota x) inpos_S1x1x1x1_p0_0_0_0) := by
  rw [word8]; exact (rows_inb _ (pay6_le x 0)).1
/-- The row load of batch 1 in the selection is inside its array. -/
theorem chk2 (x : FVec F S4x160x128 .f32) : k0_chk2 (extractAt ![0, 0, 0, 0] (k0_pay11 (k0_pay10 k0_pay27 biota x)) inpos_S1x1x1x1_p0_0_0_0) := by
  rw [word10]; exact (rows_inb _ (pay6_le x 1)).2.1
/-- The row load of batch 2 in the selection is inside its array. -/
theorem chk3 (x : FVec F S4x160x128 .f32) : k0_chk3 (extractAt ![0, 0, 0, 0] (k0_pay13 biota (k0_pay6 k0_pay27 x)) inpos_S1x1x1x1_p0_0_0_0) := by
  rw [word13]; exact (rows_inb _ (pay6_le x 2)).2.2.1
/-- The row load of batch 3 in the selection is inside its array. -/
theorem chk4 (x : FVec F S4x160x128 .f32) : k0_chk4 (extractAt ![0, 0, 0, 0] (k0_pay15 biota (k0_pay6 k0_pay27 x)) inpos_S1x1x1x1_p0_0_0_0) := by
  rw [word15]; exact (rows_inb _ (pay6_le x 3)).2.2.2
/-- The row load of batch 0 in the writing is inside its array. -/
theorem chk5 (x : FVec F S4x1x128 .f32) : k0_chk5 (extractAt ![0, 0, 0, 0] (k0_pay18 biota liota x) inpos_S1x1x1x1_p0_0_0_0) := by
  rw [word18]; exact (lanes_inb _ (pay17_le x 0)).1
/-- The row load of batch 1 in the writing is inside its array. -/
theorem chk6 (x : FVec F S4x1x128 .f32) : k0_chk6 (extractAt ![0, 0, 0, 0] (k0_pay21 biota (k0_pay17 liota x)) inpos_S1x1x1x1_p0_0_0_0) := by
  rw [word21]; exact (lanes_inb _ (pay17_le x 1)).2.1
/-- The row load of batch 2 in the writing is inside its array. -/
theorem chk7 (x : FVec F S4x1x128 .f32) : k0_chk7 (extractAt ![0, 0, 0, 0] (k0_pay23 biota (k0_pay17 liota x)) inpos_S1x1x1x1_p0_0_0_0) := by
  rw [word23]; exact (lanes_inb _ (pay17_le x 2)).2.2.1
/-- The row load of batch 3 in the writing is inside its array. -/
theorem chk8 (x : FVec F S4x1x128 .f32) : k0_chk8 (extractAt ![0, 0, 0, 0] (k0_pay25 biota (k0_pay17 liota x)) inpos_S1x1x1x1_p0_0_0_0) := by
  rw [word25]; exact (lanes_inb _ (pay17_le x 3)).2.2.2

end Cert.Proof.KernelIdeal
-- ==== Proof.Loops.lean ====
/- The two loops of the kernel whose loads depend on what the loop carries: the selection of the 100 most confident
   boxes and the writing of the 50 kept rows. What one trip stores, as a function of the state before it; the state
   before trip k, by recursion; and each loop's invariant. -/
module

public import proofs.«01_k».proof.Proof.Picks
public import proofs.«01_k».proof.Proof.Gen.KernelIdeal.Loops
public import proofs.«01_k».proof.Proof.Gen.KernelIdeal.Frame
public import Idealize.ShloMosaic.Lib.Tactic

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- No variants are counted: every loop is a counted one. -/
abbrev 𝒱₀ : Variants := Variants.none
local notation "𝕄" => MT nD τ sig Unit (Elt F) ℕ (UR sig nD τ) ℕ

/-- What the selection loop carries: the confidences still in play, and the confidences picked. -/
abbrev Sel (F : FTy → Type) := FVec F S4x160x128 .f32 × FVec F S4x1x128 .f32

/-- The boxes' scratch after one trip of the selection: in each batch the row of the picked box copied to row `k`. -/
def x6Step (arg3 : Memref sig .tc .vmem S4x20000x40 .f32) (arg6 : Memref sig .tc .vmem S4x128x48 .f32)
    (X3 : BufTy.Contents (Elt F) arg3.view.ty) (p : FVec F S4x160x128 .f32) (k : Fin k0_t1_loop.trips)
    (X6 : BufTy.Contents (Elt F) arg6.view.ty) : BufTy.Contents (Elt F) arg6.view.ty :=
  arg6.view.writes (Elt F) X6
    [⟨Rect.unit (s := S4x128x48) (k0_off8 k) S1x1x40.size (Facts₀.k0_off8_inb k), k0_pay31 (k0_pay16 (arg3.view.readAt (Elt F) (Rect.unit (s := S4x20000x40) (k0_off7 _) S1x1x40.size (k0_off7_inb _ (chk4 p))).toLoadRect X3))⟩,
     ⟨Rect.unit (s := S4x128x48) (k0_off6 k) S1x1x40.size (Facts₀.k0_off6_inb k), k0_pay14 (arg3.view.readAt (Elt F) (Rect.unit (s := S4x20000x40) (k0_off5 _) S1x1x40.size (k0_off5_inb _ (chk3 p))).toLoadRect X3)⟩,
     ⟨Rect.unit (s := S4x128x48) (k0_off4 k) S1x1x40.size (Facts₀.k0_off4_inb k), k0_pay12 (arg3.view.readAt (Elt F) (Rect.unit (s := S4x20000x40) (k0_off3 _) S1x1x40.size (k0_off3_inb _ (chk2 p))).toLoadRect X3)⟩,
     ⟨Rect.unit (s := S4x128x48) (k0_off2 k) S1x1x40.size (Facts₀.k0_off2_inb k), k0_pay9 (arg3.view.readAt (Elt F) (Rect.unit (s := S4x20000x40) (k0_off1 _) S1x1x40.size (k0_off1_inb _ (chk1 p))).toLoadRect X3)⟩]

/-- The carried pair after one trip: the picked boxes taken out of play, their confidence noted in lane `k`. -/
def selStep (k : Fin k0_t1_loop.trips) (s : Sel F) : Sel F :=
  (k0_pay32 s.1 (k0_pay6 k0_pay27 s.1), k0_pay7 liota 0#32 1#32 k s.1 s.2)

/-- The carried pair before trip `k`. -/
def selAt (s₀ : Sel F) : ℕ → Sel F
  | 0 => s₀
  | k + 1 => if h : k < k0_t1_loop.trips then selStep ⟨k, h⟩ (selAt s₀ k) else selAt s₀ k

/-- The carried pair after a trip is the trip applied to the pair before it. -/
theorem selAt_succ (s₀ : Sel F) (k : Fin k0_t1_loop.trips) : selAt s₀ (k.val + 1) = selStep k (selAt s₀ k.val) := by
  rw [selAt, dif_pos k.isLt]

/-- The boxes' scratch before trip `k` of the selection. -/
def x6At (arg3 : Memref sig .tc .vmem S4x20000x40 .f32) (arg6 : Memref sig .tc .vmem S4x128x48 .f32)
    (X3 : BufTy.Contents (Elt F) arg3.view.ty) (s₀ : Sel F) (X6 : BufTy.Contents (Elt F) arg6.view.ty) : ℕ → BufTy.Contents (Elt F) arg6.view.ty
  | 0 => X6
  | k + 1 => if h : k < k0_t1_loop.trips then x6Step arg3 arg6 X3 (selAt s₀ k).1 ⟨k, h⟩ (x6At arg3 arg6 X3 s₀ X6 k) else x6At arg3 arg6 X3 s₀ X6 k

/-- The boxes' scratch after a trip is the trip applied to the scratch before it. -/
theorem x6At_succ (arg3 : Memref sig .tc .vmem S4x20000x40 .f32) (arg6 : Memref sig .tc .vmem S4x128x48 .f32)
    (X3 : BufTy.Contents (Elt F) arg3.view.ty) (s₀ : Sel F) (X6 : BufTy.Contents (Elt F) arg6.view.ty) (k : Fin k0_t1_loop.trips) :
    x6At arg3 arg6 X3 s₀ X6 (k.val + 1) = x6Step arg3 arg6 X3 (selAt s₀ k.val).1 k (x6At arg3 arg6 X3 s₀ X6 k.val) := by
  rw [x6At, dif_pos k.isLt]

set_option warn.classDefReducibility false in
/-- The selection loop's invariant: the carried pair and the boxes' scratch are those of the recursion. -/
@[sl_loop] def loopInv_k0_t1 (c : Dev nD) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v5 : IVec S4x1x1 32) (v6 : IVec S1x1x128 32)
    (X3 : BufTy.Contents (Elt F) arg3.view.ty) (X6 : BufTy.Contents (Elt F) arg6.view.ty) (init : FVec F S4x160x128 .f32 × FVec F S4x1x128 .f32) :
    LoopInvTy_k0_t1 (F := F) Unit ℕ (UR sig nD τ) ℕ 𝒱₀ c none Set.univ i arg1 harg1 arg2 harg2 arg3 harg3 arg4 harg4 arg5 harg5 arg6 harg6 v5 v6 init where
  inv := fun k acc => iprop((arg3.view.loc (c : Thread nD τ) ↦[arg3.view.set]{fullShare} X3)
    ∗ (arg6.view.loc (c : Thread nD τ) ↦[arg6.view.set]{fullShare} x6At arg3 arg6 X3 init X6 k)
    ∗ ⌜v5 = biota⌝ ∗ ⌜v6 = liota⌝ ∗ ⌜acc = selAt init k⌝)
  step := fun k acc => by
    have hk : k.val < 100 := Nat.lt_of_lt_of_le k.isLt k0_t1_abs.2.1
    iintro ⟨H3, H6, %hv5, %hv6, %hacc⟩
    subst hv5 hv6 hacc
    have h1 := chk1 (selAt init k.val).1
    have h2 := chk2 (selAt init k.val).1
    have h3 := chk3 (selAt init k.val).1
    have h4 := chk4 (selAt init k.val).1
    unfold k0_t1_body
    sl_exec (disch := assumption)
    sl_step
    rw [selAt_succ, x6At_succ]
    isplitl [H3]
    · iexact H3
    isplitl [H6]
    · iexact H6
    isplitr
    · ipureintro; rfl
    isplitr
    · ipureintro; rfl
    · ipureintro; rfl

/-- The result block after one trip of the writing: in each batch the row of the kept box, with its confidence, in row `k`. -/
def x4Step (arg4 : Memref sig .tc .vmem S4x50x41 .f32) (arg6 : Memref sig .tc .vmem S4x128x48 .f32)
    (X6 : BufTy.Contents (Elt F) arg6.view.ty) (cv im : FVec F S4x1x128 .f32) (k : Fin k0_t15_loop.trips)
    (X4 : BufTy.Contents (Elt F) arg4.view.ty) : BufTy.Contents (Elt F) arg4.view.ty :=
  arg4.view.writes (Elt F) X4
    [⟨Rect.unit (s := S4x50x41) (k0_off29 k) S1x1x41.size (Facts₀.k0_off29_inb k), k0_pay3 (k0_pay26 biota liota cv (k0_pay17 liota im)) (arg6.view.readAt (Elt F) (Rect.unit (s := S4x128x48) (k0_off28 _) S1x1x48.size (k0_off28_inb _ (chk8 im))).toLoadRect X6)⟩,
     ⟨Rect.unit (s := S4x50x41) (k0_off27 k) S1x1x41.size (Facts₀.k0_off27_inb k), k0_pay24 biota liota cv (k0_pay17 liota im) (arg6.view.readAt (Elt F) (Rect.unit (s := S4x128x48) (k0_off26 _) S1x1x48.size (k0_off26_inb _ (chk7 im))).toLoadRect X6)⟩,
     ⟨Rect.unit (s := S4x50x41) (k0_off25 k) S1x1x41.size (Facts₀.k0_off25_inb k), k0_pay22 biota liota cv (k0_pay17 liota im) (arg6.view.readAt (Elt F) (Rect.unit (s := S4x128x48) (k0_off24 _) S1x1x48.size (k0_off24_inb _ (chk6 im))).toLoadRect X6)⟩,
     ⟨Rect.unit (s := S4x50x41) (k0_off23 k) S1x1x41.size (Facts₀.k0_off23_inb k), k0_pay20 (k0_pay19 biota liota cv im (arg6.view.readAt (Elt F) (Rect.unit (s := S4x128x48) (k0_off22 _) S1x1x48.size (k0_off22_inb _ (chk5 im))).toLoadRect X6))⟩]

/-- The overlaps still in play before trip `k` of the writing: each kept box is taken out of play by `+∞`. -/
def imAt (im₀ : FVec F S4x1x128 .f32) : ℕ → FVec F S4x1x128 .f32
  | 0 => im₀
  | k + 1 => k0_pay4 liota (imAt im₀ k) (k0_pay17 liota (imAt im₀ k))

/-- The result block before trip `k` of the writing. -/
def x4At (arg4 : Memref sig .tc .vmem S4x50x41 .f32) (arg6 : Memref sig .tc .vmem S4x128x48 .f32)
    (X6 : BufTy.Contents (Elt F) arg6.view.ty) (cv im₀ : FVec F S4x1x128 .f32) (X4 : BufTy.Contents (Elt F) arg4.view.ty) : ℕ → BufTy.Contents (Elt F) arg4.view.ty
  | 0 => X4
  | k + 1 => if h : k < k0_t15_loop.trips then x4Step arg4 arg6 X6 cv (imAt im₀ k) ⟨k, h⟩ (x4At arg4 arg6 X6 cv im₀ X4 k) else x4At arg4 arg6 X6 cv im₀ X4 k

/-- The result block after a trip is the trip applied to the block before it. -/
theorem x4At_succ (arg4 : Memref sig .tc .vmem S4x50x41 .f32) (arg6 : Memref sig .tc .vmem S4x128x48 .f32)
    (X6 : BufTy.Contents (Elt F) arg6.view.ty) (cv im₀ : FVec F S4x1x128 .f32) (X4 : BufTy.Contents (Elt F) arg4.view.ty) (k : Fin k0_t15_loop.trips) :
    x4At arg4 arg6 X6 cv im₀ X4 (k.val + 1) = x4Step arg4 arg6 X6 cv (imAt im₀ k.val) k (x4At arg4 arg6 X6 cv im₀ X4 k.val) := by
  rw [x4At, dif_pos k.isLt]

set_option warn.classDefReducibility false in
/-- The writing loop's invariant: the carried overlaps and the result block are those of the recursion. -/
@[sl_loop] def loopInv_k0_t15 (c : Dev nD) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v5 : IVec S4x1x1 32) (v6 : IVec S1x1x128 32) (v30_1 : FVec F S4x1x128 .f32)
    (X4 : BufTy.Contents (Elt F) arg4.view.ty) (X6 : BufTy.Contents (Elt F) arg6.view.ty) (init : FVec F S4x1x128 .f32) :
    LoopInvTy_k0_t15 (F := F) Unit ℕ (UR sig nD τ) ℕ 𝒱₀ c none Set.univ i arg1 harg1 arg2 harg2 arg3 harg3 arg4 harg4 arg5 harg5 arg6 harg6 v5 v6 v30_1 init where
  inv := fun k acc => iprop((arg4.view.loc (c : Thread nD τ) ↦[arg4.view.set]{fullShare} x4At arg4 arg6 X6 v30_1 init X4 k)
    ∗ (arg6.view.loc (c : Thread nD τ) ↦[arg6.view.set]{fullShare} X6)
    ∗ ⌜v5 = biota⌝ ∗ ⌜v6 = liota⌝ ∗ ⌜acc = imAt init k⌝)
  step := fun k acc => by
    have hk : k.val < 50 := Nat.lt_of_lt_of_le k.isLt k0_t15_abs.2.1
    iintro ⟨H4, H6, %hv5, %hv6, %hacc⟩
    subst hv5 hv6 hacc
    have h1 := chk5 (imAt init k.val)
    have h2 := chk6 (imAt init k.val)
    have h3 := chk7 (imAt init k.val)
    have h4 := chk8 (imAt init k.val)
    unfold k0_t15_body
    sl_exec (disch := assumption)
    sl_step
    rw [x4At_succ]
    isplitl [H4]
    · iexact H4
    isplitl [H6]
    · iexact H6
    isplitr
    · ipureintro; rfl
    isplitr
    · ipureintro; rfl
    · ipureintro; rfl

end Cert.Proof.KernelIdeal
-- ==== Proof.Trips.lean ====
/- The kernel's loops over plain arrays: what each leaves, as a function of the arrays it reads, with no buffer in it. -/
module

public import proofs.«01_k».proof.Proof.Loops
public import Idealize.ShloMosaic.Lib.VecWindow

@[expose] public section

noncomputable section

namespace Cert.Proof.KernelIdeal

open Cert.KernelIdeal
open Idealize.ShloMosaic Idealize.ShloMosaic.TcCoe Idealize.ShloMosaic.Tactic
open Cert.KernelIdeal.Gen

variable {F : FTy → Type} [FloatOps F] [Named F]

/-- A state carried through `n` trips. -/
def iter {A : Type} (n : ℕ) (step : Fin n → A → A) (a : A) : ℕ → A
  | 0 => a
  | k + 1 => if h : k < n then step ⟨k, h⟩ (iter n step a k) else iter n step a k

/-- The state after a trip is the trip applied to the state before it. -/
theorem iter_succ {A : Type} (n : ℕ) (step : Fin n → A → A) (a : A) (k : Fin n) :
    iter n step a (k.val + 1) = step k (iter n step a k.val) := by
  rw [iter, dif_pos k.isLt]

/-- A recursion that makes the same steps carries the same state. -/
theorem eq_iter {A : Type} (n : ℕ) (step : Fin n → A → A) (a : A) (st : ℕ → A) (h0 : st 0 = a)
    (hs : ∀ k : Fin n, st (k.val + 1) = step k (st k.val)) : ∀ k, k ≤ n → st k = iter n step a k
  | 0, _ => h0
  | k + 1, h => by rw [hs ⟨k, h⟩, eq_iter n step a st h0 hs k (by omega)]; exact (iter_succ n step a ⟨k, h⟩).symm

/-- The boxes' rows after one trip of the selection: in each batch the row of the picked box copied to row `k`. -/
def rowsStep (x3 : Vec F S4x20000x40 .f32) (p : FVec F S4x160x128 .f32) (k : Fin k0_t1_loop.trips) (X : Vec F S4x128x48 .f32) : Vec F S4x128x48 .f32 :=
  VecWindow.put (s := S4x128x48) (VecWindow.put (s := S4x128x48) (VecWindow.put (s := S4x128x48) (VecWindow.put (s := S4x128x48) X
    (k0_off2 k) S1x1x40.size (k0_pay9 (VecWindow.window (s := S4x20000x40) x3 (k0_off1 _) S1x1x40.size (k0_off1_inb _ (chk1 p)))))
    (k0_off4 k) S1x1x40.size (k0_pay12 (VecWindow.window (s := S4x20000x40) x3 (k0_off3 _) S1x1x40.size (k0_off3_inb _ (chk2 p)))))
    (k0_off6 k) S1x1x40.size (k0_pay14 (VecWindow.window (s := S4x20000x40) x3 (k0_off5 _) S1x1x40.size (k0_off5_inb _ (chk3 p)))))
    (k0_off8 k) S1x1x40.size (k0_pay31 (k0_pay16 (VecWindow.window (s := S4x20000x40) x3 (k0_off7 _) S1x1x40.size (k0_off7_inb _ (chk4 p)))))

/-- One trip of the selection, read through the buffers' views. -/
theorem read_x6Step (arg3 : Memref sig .tc .vmem S4x20000x40 .f32) (arg6 : Memref sig .tc .vmem S4x128x48 .f32)
    (X3 : BufTy.Contents (Elt F) arg3.view.ty) (p : FVec F S4x160x128 .f32) (k : Fin k0_t1_loop.trips) (X6 : BufTy.Contents (Elt F) arg6.view.ty) :
    arg6.view.read (Elt F) (x6Step arg3 arg6 X3 p k X6) = rowsStep (arg3.view.read (Elt F) X3) p k (arg6.view.read (Elt F) X6) := by
  unfold x6Step rowsStep
  rw [View.read_writes_cons_put _ _ _ _ _ rfl, View.read_writes_cons_put _ _ _ _ _ rfl, View.read_writes_cons_put _ _ _ _ _ rfl,
    View.read_writes_cons_put _ _ _ _ _ rfl, View.writes_nil]
  rfl

/-- The boxes' rows before trip `k` of the selection. -/
def rowsAt (x3 : Vec F S4x20000x40 .f32) (s₀ : Sel F) (X : Vec F S4x128x48 .f32) : ℕ → Vec F S4x128x48 .f32
  | 0 => X
  | k + 1 => if h : k < k0_t1_loop.trips then rowsStep x3 (selAt s₀ k).1 ⟨k, h⟩ (rowsAt x3 s₀ X k) else rowsAt x3 s₀ X k

/-- The whole selection, read through the buffers' views. -/
theorem read_x6At (arg3 : Memref sig .tc .vmem S4x20000x40 .f32) (arg6 : Memref sig .tc .vmem S4x128x48 .f32)
    (X3 : BufTy.Contents (Elt F) arg3.view.ty) (s₀ : Sel F) (X6 : BufTy.Contents (Elt F) arg6.view.ty) (k : ℕ) :
    arg6.view.read (Elt F) (x6At arg3 arg6 X3 s₀ X6 k) = rowsAt (arg3.view.read (Elt F) X3) s₀ (arg6.view.read (Elt F) X6) k := by
  induction k with
  | zero => rfl
  | succ k ih =>
    rw [x6At, rowsAt]
    by_cases h : k < k0_t1_loop.trips
    · rw [dif_pos h, dif_pos h, read_x6Step, ih]
    · rw [dif_neg h, dif_neg h, ih]

/-- The result after one trip of the writing: in each batch the kept box's row, its confidence put in, in row `k`. -/
def outStep (R : Vec F S4x128x48 .f32) (cv im : FVec F S4x1x128 .f32) (k : Fin k0_t15_loop.trips) (X : Vec F S4x50x41 .f32) : Vec F S4x50x41 .f32 :=
  VecWindow.put (s := S4x50x41) (VecWindow.put (s := S4x50x41) (VecWindow.put (s := S4x50x41) (VecWindow.put (s := S4x50x41) X
    (k0_off23 k) S1x1x41.size (k0_pay20 (k0_pay19 biota liota cv im (VecWindow.window (s := S4x128x48) R (k0_off22 _) S1x1x48.size (k0_off22_inb _ (chk5 im))))))
    (k0_off25 k) S1x1x41.size (k0_pay22 biota liota cv (k0_pay17 liota im) (VecWindow.window (s := S4x128x48) R (k0_off24 _) S1x1x48.size (k0_off24_inb _ (chk6 im)))))
    (k0_off27 k) S1x1x41.size (k0_pay24 biota liota cv (k0_pay17 liota im) (VecWindow.window (s := S4x128x48) R (k0_off26 _) S1x1x48.size (k0_off26_inb _ (chk7 im)))))
    (k0_off29 k) S1x1x41.size (k0_pay3 (k0_pay26 biota liota cv (k0_pay17 liota im)) (VecWindow.window (s := S4x128x48) R (k0_off28 _) S1x1x48.size (k0_off28_inb _ (chk8 im))))

/-- One trip of the writing, read through the buffers' views. -/
theorem read_x4Step (arg4 : Memref sig .tc .vmem S4x50x41 .f32) (arg6 : Memref sig .tc .vmem S4x128x48 .f32)
    (X6 : BufTy.Contents (Elt F) arg6.view.ty) (cv im : FVec F S4x1x128 .f32) (k : Fin k0_t15_loop.trips) (X4 : BufTy.Contents (Elt F) arg4.view.ty) :
    arg4.view.read (Elt F) (x4Step arg4 arg6 X6 cv im k X4) = outStep (arg6.view.read (Elt F) X6) cv im k (arg4.view.read (Elt F) X4) := by
  unfold x4Step outStep
  rw [View.read_writes_cons_put _ _ _ _ _ rfl, View.read_writes_cons_put _ _ _ _ _ rfl, View.read_writes_cons_put _ _ _ _ _ rfl,
    View.read_writes_cons_put _ _ _ _ _ rfl, View.writes_nil]
  rfl

/-- The result before trip `k` of the writing. -/
def outAt (R : Vec F S4x128x48 .f32) (cv im₀ : FVec F S4x1x128 .f32) (X : Vec F S4x50x41 .f32) : ℕ → Vec F S4x50x41 .f32
  | 0 => X
  | k + 1 => if h : k < k0_t15_loop.trips then outStep R cv (imAt im₀ k) ⟨k, h⟩ (outAt R cv im₀ X k) else outAt R cv im₀ X k

/-- The whole writing, read through the buffers' views. -/
theorem read_x4At (arg4 : Memref sig .tc .vmem S4x50x41 .f32) (arg6 : Memref sig .tc .vmem S4x128x48 .f32)
    (X6 : BufTy.Contents (Elt F) arg6.view.ty) (cv im₀ : FVec F S4x1x128 .f32) (X4 : BufTy.Contents (Elt F) arg4.view.ty) (k : ℕ) :
    arg4.view.read (Elt F) (x4At arg4 arg6 X6 cv im₀ X4 k) = outAt (arg6.view.read (Elt F) X6) cv im₀ (arg4.view.read (Elt F) X4) k := by
  induction k with
  | zero => rfl
  | succ k ih =>
    rw [x4At, outAt]
    by_cases h : k < k0_t15_loop.trips
    · rw [dif_pos h, dif_pos h, read_x4Step, ih]
    · rw [dif_neg h, dif_neg h, ih]

/-- A row of width `w` put at batch `b'`, row `t'`, column 0: there the payload, elsewhere what was there. -/
theorem put_row {α : Type} {n₁ n₂ w : ℕ} (X : (⟨3, ![4, n₁, n₂]⟩ : Shape).Idx → α) (b' : Fin 4) (t' : ℕ)
    (off : Fin 3 → ℕ) (hoff : off = ![b'.val, t', 0])
    (v : (⟨3, ![1, 1, w]⟩ : Shape).Idx → α) (b : Fin 4) (t : Fin n₁) (l : Fin n₂) :
    VecWindow.put (s := ⟨3, ![4, n₁, n₂]⟩) X off ![1, 1, w] v (ix3 b t l)
      = if h : b = b' ∧ t.val = t' ∧ l.val < w then v (ix3 0 0 ⟨l.val, h.2.2⟩) else X (ix3 b t l) := by
  subst hoff
  unfold VecWindow.put
  by_cases h : b = b' ∧ t.val = t' ∧ l.val < w
  · have h' : ∀ a : Fin 3, (![b'.val, t', 0] : Fin 3 → ℕ) a ≤ (ix3 b t l a).val ∧ (ix3 b t l a).val < (![b'.val, t', 0] : Fin 3 → ℕ) a + (![1, 1, w] : Fin 3 → ℕ) a := by
      obtain ⟨rfl, rfl, h3⟩ := h
      intro a; fin_cases a
      · exact ⟨le_refl _, Nat.lt_succ_self _⟩
      · exact ⟨le_refl _, Nat.lt_succ_self _⟩
      · exact ⟨Nat.zero_le _, by show l.val < 0 + w; omega⟩
    rw [dif_pos h', dif_pos h]
    refine congrArg v (funext fun a => Fin.ext ?_)
    obtain ⟨rfl, rfl, h3⟩ := h
    fin_cases a
    · show b.val - b.val = 0; omega
    · show t.val - t.val = 0; omega
    · show l.val - 0 = l.val; omega
  · have h' : ¬ ∀ a : Fin 3, (![b'.val, t', 0] : Fin 3 → ℕ) a ≤ (ix3 b t l a).val ∧ (ix3 b t l a).val < (![b'.val, t', 0] : Fin 3 → ℕ) a + (![1, 1, w] : Fin 3 → ℕ) a := by
      intro hall
      refine h ⟨Fin.ext ?_, ?_, ?_⟩
      · have := hall 0
        have h1 : b'.val ≤ b.val := this.1
        have h2 : b.val < b'.val + 1 := this.2
        omega
      · have := hall 1
        have h1 : t' ≤ t.val := this.1
        have h2 : t.val < t' + 1 := this.2
        omega
      · have h2 : l.val < 0 + w := (hall 2).2
        omega
    rw [dif_neg h', dif_neg h]

end Cert.Proof.KernelIdeal
-- ==== Proof.Cols.lean ====
/- The thirteen loops that take each box's largest overlap with the boxes before it: each as a recursion over the
   Gaussians' array, with no buffer in it; and their composition. -/
module

public import proofs.«01_k».proof.Proof.Trips

@[expose] public section

noncomputable section

namespace Cert.Proof.KernelIdeal

open Cert.KernelIdeal
open Idealize.ShloMosaic Idealize.ShloMosaic.TcCoe Idealize.ShloMosaic.Tactic
open Cert.KernelIdeal.Gen

variable {F : FTy → Type} [FloatOps F] [Named F]

/-- What a Gaussian is drawn from: the two coordinates of the grid's points, and per box height, centres and width factor. -/
structure Shapes (F : FTy → Type) where
  gx : FVec F S1x1x1024 .f32
  gy : FVec F S1x1x1024 .f32
  h : FVec F S4x128x1 .f32
  cx : FVec F S4x128x1 .f32
  cy : FVec F S4x128x1 .f32
  rx : FVec F S4x128x1 .f32

/-- The constant one half, as the kernel makes it. -/
abbrev half : F .f32 := Scalar.ofBits .f32 0x3F000000#32

/-- The Gaussians of all boxes at all grid points. -/
def Shapes.gauss (s : Shapes F) : FVec F S4x128x1024 .f32 := k0_pay41 s.gx s.gy s.h s.cx s.cy s.rx half
/-- The Gaussians' sums over the grid. -/
def Shapes.sums (s : Shapes F) : FVec F S4x128x1 .f32 := k0_pay42 s.gx s.gy s.h s.cx s.cy s.rx half

/-- Loop 2: columns 0 to 7 against rows below 8. -/
def cols2 (s : Shapes F) (init : FVec F S4x1x128 .f32) : FVec F S4x1x128 .f32 :=
  iter k0_t2_loop.trips (fun k acc => k0_pay44 liota s.gx s.gy s.h s.cx s.cy s.rx half (VecWindow.window (s := S4x128x1024) s.gauss ![0, 0, 0] S4x8x1024.size inb_S4x128x1024_S4x8x1024_0_0_0) k acc (VecWindow.window (s := S4x128x1024) s.gauss (k0_off9 k) S4x1x1024.size (k0_off9_inb k))) init k0_t2_loop.trips

/-- Loop 2, as the run states it, leaves `cols2`. -/
theorem st_k0_t2_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (s : Shapes F)
    (X : BufTy.Contents (Elt F) arg5.view.ty) (hX : arg5.view.read (Elt F) X = s.gauss) (init : FVec F S4x1x128 .f32) :
    st_k0_t2 𝒱 c bd i arg1 harg1 arg2 harg2 arg3 harg3 arg4 harg4 arg5 harg5 arg6 harg6 liota s.gx s.gy s.h s.cx s.cy s.rx half (arg5.view.readAt (Elt F) (Rect.unit (s := S4x128x1024) ![0, 0, 0] S4x8x1024.size inb_S4x128x1024_S4x8x1024_0_0_0).toLoadRect X) X init k0_t2_loop.trips
      = cols2 s init := by
  refine eq_iter _ _ _ _ rfl (fun k => ?_) _ le_rfl
  rw [st_k0_t2_succ, ← hX]
  unfold tripR_k0_t2 trip_k0_t2
  rfl

/-- Loop 3: columns 8 to 15 against rows below 16. -/
def cols3 (s : Shapes F) (init : FVec F S4x1x128 .f32) : FVec F S4x1x128 .f32 :=
  iter k0_t3_loop.trips (fun k acc => k0_pay45 liota s.sums (VecWindow.window (s := S4x128x1024) s.gauss ![0, 0, 0] S4x16x1024.size inb_S4x128x1024_S4x16x1024_0_0_0) k acc (VecWindow.window (s := S4x128x1024) s.gauss (k0_off10 k) S4x1x1024.size (k0_off10_inb k))) init k0_t3_loop.trips

/-- Loop 3, as the run states it, leaves `cols3`. -/
theorem st_k0_t3_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v153 : FVec F S4x1x128 .f32) (s : Shapes F)
    (X : BufTy.Contents (Elt F) arg5.view.ty) (hX : arg5.view.read (Elt F) X = s.gauss) (init : FVec F S4x1x128 .f32) :
    st_k0_t3 𝒱 c bd i arg1 harg1 arg2 harg2 arg3 harg3 arg4 harg4 arg5 harg5 arg6 harg6 liota s.sums v153 (arg5.view.readAt (Elt F) (Rect.unit (s := S4x128x1024) ![0, 0, 0] S4x16x1024.size inb_S4x128x1024_S4x16x1024_0_0_0).toLoadRect X) X init k0_t3_loop.trips
      = cols3 s init := by
  refine eq_iter _ _ _ _ rfl (fun k => ?_) _ le_rfl
  rw [st_k0_t3_succ, ← hX]
  unfold tripR_k0_t3 trip_k0_t3
  rfl

/-- Loop 4: columns 16 to 23 against rows below 24. -/
def cols4 (s : Shapes F) (init : FVec F S4x1x128 .f32) : FVec F S4x1x128 .f32 :=
  iter k0_t4_loop.trips (fun k acc => k0_pay46 liota s.sums (VecWindow.window (s := S4x128x1024) s.gauss ![0, 0, 0] S4x24x1024.size inb_S4x128x1024_S4x24x1024_0_0_0) k acc (VecWindow.window (s := S4x128x1024) s.gauss (k0_off11 k) S4x1x1024.size (k0_off11_inb k))) init k0_t4_loop.trips

/-- Loop 4, as the run states it, leaves `cols4`. -/
theorem st_k0_t4_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v153 : FVec F S4x1x128 .f32) (s : Shapes F)
    (X : BufTy.Contents (Elt F) arg5.view.ty) (hX : arg5.view.read (Elt F) X = s.gauss) (init : FVec F S4x1x128 .f32) :
    st_k0_t4 𝒱 c bd i arg1 harg1 arg2 harg2 arg3 harg3 arg4 harg4 arg5 harg5 arg6 harg6 liota s.sums v153 (arg5.view.readAt (Elt F) (Rect.unit (s := S4x128x1024) ![0, 0, 0] S4x24x1024.size inb_S4x128x1024_S4x24x1024_0_0_0).toLoadRect X) X init k0_t4_loop.trips
      = cols4 s init := by
  refine eq_iter _ _ _ _ rfl (fun k => ?_) _ le_rfl
  rw [st_k0_t4_succ, ← hX]
  unfold tripR_k0_t4 trip_k0_t4
  rfl

/-- Loop 5: columns 24 to 31 against rows below 32. -/
def cols5 (s : Shapes F) (init : FVec F S4x1x128 .f32) : FVec F S4x1x128 .f32 :=
  iter k0_t5_loop.trips (fun k acc => k0_pay47 liota s.sums (VecWindow.window (s := S4x128x1024) s.gauss ![0, 0, 0] S4x32x1024.size inb_S4x128x1024_S4x32x1024_0_0_0) k acc (VecWindow.window (s := S4x128x1024) s.gauss (k0_off12 k) S4x1x1024.size (k0_off12_inb k))) init k0_t5_loop.trips

/-- Loop 5, as the run states it, leaves `cols5`. -/
theorem st_k0_t5_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v153 : FVec F S4x1x128 .f32) (s : Shapes F)
    (X : BufTy.Contents (Elt F) arg5.view.ty) (hX : arg5.view.read (Elt F) X = s.gauss) (init : FVec F S4x1x128 .f32) :
    st_k0_t5 𝒱 c bd i arg1 harg1 arg2 harg2 arg3 harg3 arg4 harg4 arg5 harg5 arg6 harg6 liota s.sums v153 (arg5.view.readAt (Elt F) (Rect.unit (s := S4x128x1024) ![0, 0, 0] S4x32x1024.size inb_S4x128x1024_S4x32x1024_0_0_0).toLoadRect X) X init k0_t5_loop.trips
      = cols5 s init := by
  refine eq_iter _ _ _ _ rfl (fun k => ?_) _ le_rfl
  rw [st_k0_t5_succ, ← hX]
  unfold tripR_k0_t5 trip_k0_t5
  rfl

/-- Loop 6: columns 32 to 39 against rows below 40. -/
def cols6 (s : Shapes F) (init : FVec F S4x1x128 .f32) : FVec F S4x1x128 .f32 :=
  iter k0_t6_loop.trips (fun k acc => k0_pay48 liota s.sums (VecWindow.window (s := S4x128x1024) s.gauss ![0, 0, 0] S4x40x1024.size inb_S4x128x1024_S4x40x1024_0_0_0) k acc (VecWindow.window (s := S4x128x1024) s.gauss (k0_off13 k) S4x1x1024.size (k0_off13_inb k))) init k0_t6_loop.trips

/-- Loop 6, as the run states it, leaves `cols6`. -/
theorem st_k0_t6_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v153 : FVec F S4x1x128 .f32) (s : Shapes F)
    (X : BufTy.Contents (Elt F) arg5.view.ty) (hX : arg5.view.read (Elt F) X = s.gauss) (init : FVec F S4x1x128 .f32) :
    st_k0_t6 𝒱 c bd i arg1 harg1 arg2 harg2 arg3 harg3 arg4 harg4 arg5 harg5 arg6 harg6 liota s.sums v153 (arg5.view.readAt (Elt F) (Rect.unit (s := S4x128x1024) ![0, 0, 0] S4x40x1024.size inb_S4x128x1024_S4x40x1024_0_0_0).toLoadRect X) X init k0_t6_loop.trips
      = cols6 s init := by
  refine eq_iter _ _ _ _ rfl (fun k => ?_) _ le_rfl
  rw [st_k0_t6_succ, ← hX]
  unfold tripR_k0_t6 trip_k0_t6
  rfl

/-- Loop 7: columns 40 to 47 against rows below 48. -/
def cols7 (s : Shapes F) (init : FVec F S4x1x128 .f32) : FVec F S4x1x128 .f32 :=
  iter k0_t7_loop.trips (fun k acc => k0_pay49 liota s.sums (VecWindow.window (s := S4x128x1024) s.gauss ![0, 0, 0] S4x48x1024.size inb_S4x128x1024_S4x48x1024_0_0_0) k acc (VecWindow.window (s := S4x128x1024) s.gauss (k0_off14 k) S4x1x1024.size (k0_off14_inb k))) init k0_t7_loop.trips

/-- Loop 7, as the run states it, leaves `cols7`. -/
theorem st_k0_t7_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v153 : FVec F S4x1x128 .f32) (s : Shapes F)
    (X : BufTy.Contents (Elt F) arg5.view.ty) (hX : arg5.view.read (Elt F) X = s.gauss) (init : FVec F S4x1x128 .f32) :
    st_k0_t7 𝒱 c bd i arg1 harg1 arg2 harg2 arg3 harg3 arg4 harg4 arg5 harg5 arg6 harg6 liota s.sums v153 (arg5.view.readAt (Elt F) (Rect.unit (s := S4x128x1024) ![0, 0, 0] S4x48x1024.size inb_S4x128x1024_S4x48x1024_0_0_0).toLoadRect X) X init k0_t7_loop.trips
      = cols7 s init := by
  refine eq_iter _ _ _ _ rfl (fun k => ?_) _ le_rfl
  rw [st_k0_t7_succ, ← hX]
  unfold tripR_k0_t7 trip_k0_t7
  rfl

/-- Loop 8: columns 48 to 55 against rows below 56. -/
def cols8 (s : Shapes F) (init : FVec F S4x1x128 .f32) : FVec F S4x1x128 .f32 :=
  iter k0_t8_loop.trips (fun k acc => k0_pay50 liota s.sums (VecWindow.window (s := S4x128x1024) s.gauss ![0, 0, 0] S4x56x1024.size inb_S4x128x1024_S4x56x1024_0_0_0) k acc (VecWindow.window (s := S4x128x1024) s.gauss (k0_off15 k) S4x1x1024.size (k0_off15_inb k))) init k0_t8_loop.trips

/-- Loop 8, as the run states it, leaves `cols8`. -/
theorem st_k0_t8_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v153 : FVec F S4x1x128 .f32) (s : Shapes F)
    (X : BufTy.Contents (Elt F) arg5.view.ty) (hX : arg5.view.read (Elt F) X = s.gauss) (init : FVec F S4x1x128 .f32) :
    st_k0_t8 𝒱 c bd i arg1 harg1 arg2 harg2 arg3 harg3 arg4 harg4 arg5 harg5 arg6 harg6 liota s.sums v153 (arg5.view.readAt (Elt F) (Rect.unit (s := S4x128x1024) ![0, 0, 0] S4x56x1024.size inb_S4x128x1024_S4x56x1024_0_0_0).toLoadRect X) X init k0_t8_loop.trips
      = cols8 s init := by
  refine eq_iter _ _ _ _ rfl (fun k => ?_) _ le_rfl
  rw [st_k0_t8_succ, ← hX]
  unfold tripR_k0_t8 trip_k0_t8
  rfl

/-- Loop 9: columns 56 to 63 against rows below 64. -/
def cols9 (s : Shapes F) (init : FVec F S4x1x128 .f32) : FVec F S4x1x128 .f32 :=
  iter k0_t9_loop.trips (fun k acc => k0_pay51 liota s.sums (VecWindow.window (s := S4x128x1024) s.gauss ![0, 0, 0] S4x64x1024.size inb_S4x128x1024_S4x64x1024_0_0_0) k acc (VecWindow.window (s := S4x128x1024) s.gauss (k0_off16 k) S4x1x1024.size (k0_off16_inb k))) init k0_t9_loop.trips

/-- Loop 9, as the run states it, leaves `cols9`. -/
theorem st_k0_t9_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v153 : FVec F S4x1x128 .f32) (s : Shapes F)
    (X : BufTy.Contents (Elt F) arg5.view.ty) (hX : arg5.view.read (Elt F) X = s.gauss) (init : FVec F S4x1x128 .f32) :
    st_k0_t9 𝒱 c bd i arg1 harg1 arg2 harg2 arg3 harg3 arg4 harg4 arg5 harg5 arg6 harg6 liota s.sums v153 (arg5.view.readAt (Elt F) (Rect.unit (s := S4x128x1024) ![0, 0, 0] S4x64x1024.size inb_S4x128x1024_S4x64x1024_0_0_0).toLoadRect X) X init k0_t9_loop.trips
      = cols9 s init := by
  refine eq_iter _ _ _ _ rfl (fun k => ?_) _ le_rfl
  rw [st_k0_t9_succ, ← hX]
  unfold tripR_k0_t9 trip_k0_t9
  rfl

/-- Loop 10: columns 64 to 71 against rows below 72. -/
def cols10 (s : Shapes F) (init : FVec F S4x1x128 .f32) : FVec F S4x1x128 .f32 :=
  iter k0_t10_loop.trips (fun k acc => k0_pay52 liota s.sums (VecWindow.window (s := S4x128x1024) s.gauss ![0, 0, 0] S4x72x1024.size inb_S4x128x1024_S4x72x1024_0_0_0) k acc (VecWindow.window (s := S4x128x1024) s.gauss (k0_off17 k) S4x1x1024.size (k0_off17_inb k))) init k0_t10_loop.trips

/-- Loop 10, as the run states it, leaves `cols10`. -/
theorem st_k0_t10_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v153 : FVec F S4x1x128 .f32) (s : Shapes F)
    (X : BufTy.Contents (Elt F) arg5.view.ty) (hX : arg5.view.read (Elt F) X = s.gauss) (init : FVec F S4x1x128 .f32) :
    st_k0_t10 𝒱 c bd i arg1 harg1 arg2 harg2 arg3 harg3 arg4 harg4 arg5 harg5 arg6 harg6 liota s.sums v153 (arg5.view.readAt (Elt F) (Rect.unit (s := S4x128x1024) ![0, 0, 0] S4x72x1024.size inb_S4x128x1024_S4x72x1024_0_0_0).toLoadRect X) X init k0_t10_loop.trips
      = cols10 s init := by
  refine eq_iter _ _ _ _ rfl (fun k => ?_) _ le_rfl
  rw [st_k0_t10_succ, ← hX]
  unfold tripR_k0_t10 trip_k0_t10
  rfl

/-- Loop 11: columns 72 to 79 against rows below 80. -/
def cols11 (s : Shapes F) (init : FVec F S4x1x128 .f32) : FVec F S4x1x128 .f32 :=
  iter k0_t11_loop.trips (fun k acc => k0_pay53 liota s.sums (VecWindow.window (s := S4x128x1024) s.gauss ![0, 0, 0] S4x80x1024.size inb_S4x128x1024_S4x80x1024_0_0_0) k acc (VecWindow.window (s := S4x128x1024) s.gauss (k0_off18 k) S4x1x1024.size (k0_off18_inb k))) init k0_t11_loop.trips

/-- Loop 11, as the run states it, leaves `cols11`. -/
theorem st_k0_t11_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v153 : FVec F S4x1x128 .f32) (s : Shapes F)
    (X : BufTy.Contents (Elt F) arg5.view.ty) (hX : arg5.view.read (Elt F) X = s.gauss) (init : FVec F S4x1x128 .f32) :
    st_k0_t11 𝒱 c bd i arg1 harg1 arg2 harg2 arg3 harg3 arg4 harg4 arg5 harg5 arg6 harg6 liota s.sums v153 (arg5.view.readAt (Elt F) (Rect.unit (s := S4x128x1024) ![0, 0, 0] S4x80x1024.size inb_S4x128x1024_S4x80x1024_0_0_0).toLoadRect X) X init k0_t11_loop.trips
      = cols11 s init := by
  refine eq_iter _ _ _ _ rfl (fun k => ?_) _ le_rfl
  rw [st_k0_t11_succ, ← hX]
  unfold tripR_k0_t11 trip_k0_t11
  rfl

/-- Loop 12: columns 80 to 87 against rows below 88. -/
def cols12 (s : Shapes F) (init : FVec F S4x1x128 .f32) : FVec F S4x1x128 .f32 :=
  iter k0_t12_loop.trips (fun k acc => k0_pay54 liota s.sums (VecWindow.window (s := S4x128x1024) s.gauss ![0, 0, 0] S4x88x1024.size inb_S4x128x1024_S4x88x1024_0_0_0) k acc (VecWindow.window (s := S4x128x1024) s.gauss (k0_off19 k) S4x1x1024.size (k0_off19_inb k))) init k0_t12_loop.trips

/-- Loop 12, as the run states it, leaves `cols12`. -/
theorem st_k0_t12_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (v153 : FVec F S4x1x128 .f32) (s : Shapes F)
    (X : BufTy.Contents (Elt F) arg5.view.ty) (hX : arg5.view.read (Elt F) X = s.gauss) (init : FVec F S4x1x128 .f32) :
    st_k0_t12 𝒱 c bd i arg1 harg1 arg2 harg2 arg3 harg3 arg4 harg4 arg5 harg5 arg6 harg6 liota s.sums v153 (arg5.view.readAt (Elt F) (Rect.unit (s := S4x128x1024) ![0, 0, 0] S4x88x1024.size inb_S4x128x1024_S4x88x1024_0_0_0).toLoadRect X) X init k0_t12_loop.trips
      = cols12 s init := by
  refine eq_iter _ _ _ _ rfl (fun k => ?_) _ le_rfl
  rw [st_k0_t12_succ, ← hX]
  unfold tripR_k0_t12 trip_k0_t12
  rfl

/-- Loop 13: columns 88 to 95 against rows below 96. -/
def cols13 (s : Shapes F) (init : FVec F S4x1x128 .f32) : FVec F S4x1x128 .f32 :=
  iter k0_t13_loop.trips (fun k acc => k0_pay1 liota s.sums (VecWindow.window (s := S4x128x1024) s.gauss ![0, 0, 0] S4x96x1024.size inb_S4x128x1024_S4x96x1024_0_0_0) k acc (VecWindow.window (s := S4x128x1024) s.gauss (k0_off20 k) S4x1x1024.size (k0_off20_inb k))) init k0_t13_loop.trips

/-- Loop 13, as the run states it, leaves `cols13`. -/
theorem st_k0_t13_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (s : Shapes F)
    (X : BufTy.Contents (Elt F) arg5.view.ty) (hX : arg5.view.read (Elt F) X = s.gauss) (init : FVec F S4x1x128 .f32) :
    st_k0_t13 𝒱 c bd i arg1 harg1 arg2 harg2 arg3 harg3 arg4 harg4 arg5 harg5 arg6 harg6 liota s.sums (arg5.view.readAt (Elt F) (Rect.unit (s := S4x128x1024) ![0, 0, 0] S4x96x1024.size inb_S4x128x1024_S4x96x1024_0_0_0).toLoadRect X) X init k0_t13_loop.trips
      = cols13 s init := by
  refine eq_iter _ _ _ _ rfl (fun k => ?_) _ le_rfl
  rw [st_k0_t13_succ, ← hX]
  unfold tripR_k0_t13 trip_k0_t13
  rfl

/-- Loop 14: columns 96 to 99 against rows below 104. -/
def cols14 (s : Shapes F) (init : FVec F S4x1x128 .f32) : FVec F S4x1x128 .f32 :=
  iter k0_t14_loop.trips (fun k acc => k0_pay2 liota s.sums (VecWindow.window (s := S4x128x1024) s.gauss ![0, 0, 0] S4x104x1024.size inb_S4x128x1024_S4x104x1024_0_0_0) k acc (VecWindow.window (s := S4x128x1024) s.gauss (k0_off21 k) S4x1x1024.size (k0_off21_inb k))) init k0_t14_loop.trips

/-- Loop 14, as the run states it, leaves `cols14`. -/
theorem st_k0_t14_eq (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (s : Shapes F)
    (X : BufTy.Contents (Elt F) arg5.view.ty) (hX : arg5.view.read (Elt F) X = s.gauss) (init : FVec F S4x1x128 .f32) :
    st_k0_t14 𝒱 c bd i arg1 harg1 arg2 harg2 arg3 harg3 arg4 harg4 arg5 harg5 arg6 harg6 liota s.sums (arg5.view.readAt (Elt F) (Rect.unit (s := S4x128x1024) ![0, 0, 0] S4x104x1024.size inb_S4x128x1024_S4x104x1024_0_0_0).toLoadRect X) X init k0_t14_loop.trips
      = cols14 s init := by
  refine eq_iter _ _ _ _ rfl (fun k => ?_) _ le_rfl
  rw [st_k0_t14_succ, ← hX]
  unfold tripR_k0_t14 trip_k0_t14
  rfl

/-- Each box's largest overlap with a box before it, and `+∞` past the hundredth. -/
def overlaps (s : Shapes F) : FVec F S4x1x128 .f32 := cols14 s (cols13 s (cols12 s (cols11 s (cols10 s (cols9 s (cols8 s (cols7 s (cols6 s (cols5 s (cols4 s (cols3 s (cols2 s (k0_pay43 liota)))))))))))))

/-- The run after the first of the thirteen loops. -/
def runTo2 (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (s : Shapes F) (X : BufTy.Contents (Elt F) arg5.view.ty) : FVec F S4x1x128 .f32 :=
  (st_k0_t2 𝒱 c bd i arg1 harg1 arg2 harg2 arg3 harg3 arg4 harg4 arg5 harg5 arg6 harg6 liota s.gx s.gy s.h s.cx s.cy s.rx half (arg5.view.readAt (Elt F) (Rect.unit (s := S4x128x1024) ![0, 0, 0] S4x8x1024.size inb_S4x128x1024_S4x8x1024_0_0_0).toLoadRect X) X (k0_pay43 liota) k0_t2_loop.trips)

/-- The run after the sixth of them. -/
def runTo7 (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (s : Shapes F) (X : BufTy.Contents (Elt F) arg5.view.ty) : FVec F S4x1x128 .f32 :=
  (st_k0_t7 𝒱 c bd i arg1 harg1 arg2 harg2 arg3 harg3 arg4 harg4 arg5 harg5 arg6 harg6 liota s.sums (runTo2 𝒱 c bd i arg1 harg1 arg2 harg2 arg3 harg3 arg4 harg4 arg5 harg5 arg6 harg6 s X) (arg5.view.readAt (Elt F) (Rect.unit (s := S4x128x1024) ![0, 0, 0] S4x48x1024.size inb_S4x128x1024_S4x48x1024_0_0_0).toLoadRect X) X (st_k0_t6 𝒱 c bd i arg1 harg1 arg2 harg2 arg3 harg3 arg4 harg4 arg5 harg5 arg6 harg6 liota s.sums (runTo2 𝒱 c bd i arg1 harg1 arg2 harg2 arg3 harg3 arg4 harg4 arg5 harg5 arg6 harg6 s X) (arg5.view.readAt (Elt F) (Rect.unit (s := S4x128x1024) ![0, 0, 0] S4x40x1024.size inb_S4x128x1024_S4x40x1024_0_0_0).toLoadRect X) X (st_k0_t5 𝒱 c bd i arg1 harg1 arg2 harg2 arg3 harg3 arg4 harg4 arg5 harg5 arg6 harg6 liota s.sums (runTo2 𝒱 c bd i arg1 harg1 arg2 harg2 arg3 harg3 arg4 harg4 arg5 harg5 arg6 harg6 s X) (arg5.view.readAt (Elt F) (Rect.unit (s := S4x128x1024) ![0, 0, 0] S4x32x1024.size inb_S4x128x1024_S4x32x1024_0_0_0).toLoadRect X) X (st_k0_t4 𝒱 c bd i arg1 harg1 arg2 harg2 arg3 harg3 arg4 harg4 arg5 harg5 arg6 harg6 liota s.sums (runTo2 𝒱 c bd i arg1 harg1 arg2 harg2 arg3 harg3 arg4 harg4 arg5 harg5 arg6 harg6 s X) (arg5.view.readAt (Elt F) (Rect.unit (s := S4x128x1024) ![0, 0, 0] S4x24x1024.size inb_S4x128x1024_S4x24x1024_0_0_0).toLoadRect X) X (st_k0_t3 𝒱 c bd i arg1 harg1 arg2 harg2 arg3 harg3 arg4 harg4 arg5 harg5 arg6 harg6 liota s.sums (runTo2 𝒱 c bd i arg1 harg1 arg2 harg2 arg3 harg3 arg4 harg4 arg5 harg5 arg6 harg6 s X) (arg5.view.readAt (Elt F) (Rect.unit (s := S4x128x1024) ![0, 0, 0] S4x16x1024.size inb_S4x128x1024_S4x16x1024_0_0_0).toLoadRect X) X (runTo2 𝒱 c bd i arg1 harg1 arg2 harg2 arg3 harg3 arg4 harg4 arg5 harg5 arg6 harg6 s X) k0_t3_loop.trips) k0_t4_loop.trips) k0_t5_loop.trips) k0_t6_loop.trips) k0_t7_loop.trips)

/-- The thirteen loops one after another, as the run states them, leave the overlaps. -/
theorem overlaps_run (𝒱 : Variants) (c : Dev nD) (bd : Option 𝒱.V) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole) (s : Shapes F) (X : BufTy.Contents (Elt F) arg5.view.ty) (hX : arg5.view.read (Elt F) X = s.gauss) :
    overlaps s = (st_k0_t14 𝒱 c bd i arg1 harg1 arg2 harg2 arg3 harg3 arg4 harg4 arg5 harg5 arg6 harg6 liota s.sums (arg5.view.readAt (Elt F) (Rect.unit (s := S4x128x1024) ![0, 0, 0] S4x104x1024.size inb_S4x128x1024_S4x104x1024_0_0_0).toLoadRect X) X (st_k0_t13 𝒱 c bd i arg1 harg1 arg2 harg2 arg3 harg3 arg4 harg4 arg5 harg5 arg6 harg6 liota s.sums (arg5.view.readAt (Elt F) (Rect.unit (s := S4x128x1024) ![0, 0, 0] S4x96x1024.size inb_S4x128x1024_S4x96x1024_0_0_0).toLoadRect X) X (st_k0_t12 𝒱 c bd i arg1 harg1 arg2 harg2 arg3 harg3 arg4 harg4 arg5 harg5 arg6 harg6 liota s.sums (runTo7 𝒱 c bd i arg1 harg1 arg2 harg2 arg3 harg3 arg4 harg4 arg5 harg5 arg6 harg6 s X) (arg5.view.readAt (Elt F) (Rect.unit (s := S4x128x1024) ![0, 0, 0] S4x88x1024.size inb_S4x128x1024_S4x88x1024_0_0_0).toLoadRect X) X (st_k0_t11 𝒱 c bd i arg1 harg1 arg2 harg2 arg3 harg3 arg4 harg4 arg5 harg5 arg6 harg6 liota s.sums (runTo7 𝒱 c bd i arg1 harg1 arg2 harg2 arg3 harg3 arg4 harg4 arg5 harg5 arg6 harg6 s X) (arg5.view.readAt (Elt F) (Rect.unit (s := S4x128x1024) ![0, 0, 0] S4x80x1024.size inb_S4x128x1024_S4x80x1024_0_0_0).toLoadRect X) X (st_k0_t10 𝒱 c bd i arg1 harg1 arg2 harg2 arg3 harg3 arg4 harg4 arg5 harg5 arg6 harg6 liota s.sums (runTo7 𝒱 c bd i arg1 harg1 arg2 harg2 arg3 harg3 arg4 harg4 arg5 harg5 arg6 harg6 s X) (arg5.view.readAt (Elt F) (Rect.unit (s := S4x128x1024) ![0, 0, 0] S4x72x1024.size inb_S4x128x1024_S4x72x1024_0_0_0).toLoadRect X) X (st_k0_t9 𝒱 c bd i arg1 harg1 arg2 harg2 arg3 harg3 arg4 harg4 arg5 harg5 arg6 harg6 liota s.sums (runTo7 𝒱 c bd i arg1 harg1 arg2 harg2 arg3 harg3 arg4 harg4 arg5 harg5 arg6 harg6 s X) (arg5.view.readAt (Elt F) (Rect.unit (s := S4x128x1024) ![0, 0, 0] S4x64x1024.size inb_S4x128x1024_S4x64x1024_0_0_0).toLoadRect X) X (st_k0_t8 𝒱 c bd i arg1 harg1 arg2 harg2 arg3 harg3 arg4 harg4 arg5 harg5 arg6 harg6 liota s.sums (runTo7 𝒱 c bd i arg1 harg1 arg2 harg2 arg3 harg3 arg4 harg4 arg5 harg5 arg6 harg6 s X) (arg5.view.readAt (Elt F) (Rect.unit (s := S4x128x1024) ![0, 0, 0] S4x56x1024.size inb_S4x128x1024_S4x56x1024_0_0_0).toLoadRect X) X (runTo7 𝒱 c bd i arg1 harg1 arg2 harg2 arg3 harg3 arg4 harg4 arg5 harg5 arg6 harg6 s X) k0_t8_loop.trips) k0_t9_loop.trips) k0_t10_loop.trips) k0_t11_loop.trips) k0_t12_loop.trips) k0_t13_loop.trips) k0_t14_loop.trips) := by
  rw [st_k0_t14_eq (hX := hX), st_k0_t13_eq (hX := hX), st_k0_t12_eq (hX := hX), st_k0_t11_eq (hX := hX), st_k0_t10_eq (hX := hX), st_k0_t9_eq (hX := hX), st_k0_t8_eq (hX := hX), runTo7, st_k0_t7_eq (hX := hX), st_k0_t6_eq (hX := hX), st_k0_t5_eq (hX := hX), st_k0_t4_eq (hX := hX), st_k0_t3_eq (hX := hX), runTo2, st_k0_t2_eq (hX := hX)]
  rfl

end Cert.Proof.KernelIdeal
-- ==== Proof.Block.lean ====
/- What the kernel's one block computes, as a function of the three input arrays. -/
module

public import proofs.«01_k».proof.Proof.Cols

@[expose] public section

noncomputable section

namespace Cert.Proof.KernelIdeal

open Cert.KernelIdeal
open Idealize.ShloMosaic Idealize.ShloMosaic.TcCoe Idealize.ShloMosaic.Tactic
open Cert.KernelIdeal.Gen

variable {F : FTy → Type} [FloatOps F] [Named F]

/-- The selection's first state: the confidences (−1 in the padding), none picked. -/
def sel0 (x1 x2 : Vec F S4x160x128 .f32) : Sel F := (k0_pay28 x1 x2, k0_pay30)

/-- The rows of the hundred picked boxes. -/
def picked (x1 x2 : Vec F S4x160x128 .f32) (x3 : Vec F S4x20000x40 .f32) : Vec F S4x128x48 .f32 :=
  rowsAt x3 (sel0 x1 x2) k0_pay29 k0_t1_loop.trips

/-- The picked boxes' confidences. -/
def confs (x1 x2 : Vec F S4x160x128 .f32) : FVec F S4x1x128 .f32 := (selAt (sel0 x1 x2) k0_t1_loop.trips).2

/-- Column `l` of the rows. -/
def colOf (R : Vec F S4x128x48 .f32) (l : ℕ) (h : ∀ a, (![0, 0, l] : Fin 3 → ℕ) a + S4x128x1.size a ≤ S4x128x48.size a) : FVec F S4x128x1 .f32 :=
  VecWindow.window (s := S4x128x48) R ![0, 0, l] S4x128x1.size h

/-- The Gaussians' shapes from the picked rows. -/
def shapesOf (R : Vec F S4x128x48 .f32) : Shapes F where
  gx := k0_pay34 (Scalar.select (Scalar.cmpi .eq 32#32 0#32) 1#32 32#32) k0_pay33 0#32
  gy := k0_pay35
  h := k0_pay36 (colOf R 3 inb_S4x128x48_S4x128x1_0_0_3) (colOf R 39 inb_S4x128x48_S4x128x1_0_0_39)
  cx := k0_pay37 (colOf R 0 inb_S4x128x48_S4x128x1_0_0_0) (colOf R 36 inb_S4x128x48_S4x128x1_0_0_36) (colOf R 38 inb_S4x128x48_S4x128x1_0_0_38)
  cy := k0_pay38 (colOf R 1 inb_S4x128x48_S4x128x1_0_0_1) (colOf R 37 inb_S4x128x48_S4x128x1_0_0_37) (colOf R 39 inb_S4x128x48_S4x128x1_0_0_39)
  rx := k0_pay39 (colOf R 2 inb_S4x128x48_S4x128x1_0_0_2) (colOf R 38 inb_S4x128x48_S4x128x1_0_0_38)

/-- The result block: the fifty rows least overlapped, written over anything. -/
def kernelOut (x1 x2 : Vec F S4x160x128 .f32) (x3 : Vec F S4x20000x40 .f32) : Vec F S4x50x41 .f32 :=
  outAt (picked x1 x2 x3) (confs x1 x2) (overlaps (shapesOf (picked x1 x2 x3))) (fun _ => Scalar.ofBits .f32 0#32) k0_t15_loop.trips

/-- A trip of the writing leaves the rows other than its own. -/
theorem outStep_other (R : Vec F S4x128x48 .f32) (cv im : FVec F S4x1x128 .f32) (k : Fin k0_t15_loop.trips) (X : Vec F S4x50x41 .f32)
    (b : Fin 4) (t : Fin 50) (l : Fin 41) (h : t.val ≠ k.val) : outStep R cv im k X (ix3 b t l) = X (ix3 b t l) := by
  unfold outStep
  rw [put_row _ 3 k.val _ (k0_off29_eq k), dif_neg (fun h' => h h'.2.1), put_row _ 2 k.val _ (k0_off27_eq k), dif_neg (fun h' => h h'.2.1),
    put_row _ 1 k.val _ (k0_off25_eq k), dif_neg (fun h' => h h'.2.1), put_row _ 0 k.val _ (k0_off23_eq k), dif_neg (fun h' => h h'.2.1)]

/-- What a trip of the writing puts in its own row does not depend on what was there. -/
theorem outStep_same (R : Vec F S4x128x48 .f32) (cv im : FVec F S4x1x128 .f32) (k : Fin k0_t15_loop.trips) (X X' : Vec F S4x50x41 .f32)
    (b : Fin 4) (t : Fin 50) (l : Fin 41) (h : t.val = k.val) : outStep R cv im k X (ix3 b t l) = outStep R cv im k X' (ix3 b t l) := by
  unfold outStep
  simp only [put_row _ 3 k.val _ (k0_off29_eq k), put_row _ 2 k.val _ (k0_off27_eq k), put_row _ 1 k.val _ (k0_off25_eq k), put_row _ 0 k.val _ (k0_off23_eq k)]
  have hl : l.val < 41 := l.isLt
  split_ifs with h3 h2 h1 h0
  · rfl
  · rfl
  · rfl
  · rfl
  · exfalso
    have e : ∀ b' : Fin 4, ¬ b = b' → True := fun _ _ => trivial
    fin_cases b
    · exact h0 ⟨rfl, h, hl⟩
    · exact h1 ⟨rfl, h, hl⟩
    · exact h2 ⟨rfl, h, hl⟩
    · exact h3 ⟨rfl, h, hl⟩

/-- The rows written so far do not depend on what was there before. -/
theorem outAt_indep (R : Vec F S4x128x48 .f32) (cv im₀ : FVec F S4x1x128 .f32) (X X' : Vec F S4x50x41 .f32) (k : ℕ) (hk : k ≤ k0_t15_loop.trips)
    (b : Fin 4) (t : Fin 50) (l : Fin 41) (h : t.val < k) : outAt R cv im₀ X k (ix3 b t l) = outAt R cv im₀ X' k (ix3 b t l) := by
  induction k with
  | zero => exact absurd h (Nat.not_lt_zero _)
  | succ k ih =>
    rw [outAt, outAt, dif_pos (by omega), dif_pos (by omega)]
    by_cases e : t.val = k
    · exact outStep_same R cv _ ⟨k, by omega⟩ _ _ b t l e
    · rw [outStep_other R cv _ ⟨k, by omega⟩ _ b t l e, outStep_other R cv _ ⟨k, by omega⟩ _ b t l e, ih (by omega) (by omega)]

/-- The writing loop makes fifty trips. -/
theorem trips15 : k0_t15_loop.trips = 50 := by decide +kernel

/-- The whole result does not depend on what was there before. -/
theorem outAt_any (R : Vec F S4x128x48 .f32) (cv im₀ : FVec F S4x1x128 .f32) (X X' : Vec F S4x50x41 .f32) :
    outAt R cv im₀ X k0_t15_loop.trips = outAt R cv im₀ X' k0_t15_loop.trips := by
  funext y
  have e : y = ix3 (y 0) (y 1) (y 2) := by funext a; fin_cases a <;> rfl
  rw [e]
  exact outAt_indep R cv im₀ X X' _ le_rfl _ _ _ (by rw [trips15]; exact (y 1).isLt)

end Cert.Proof.KernelIdeal
-- ==== Proof.Run.lean ====
module

public import proofs.«01_k».proof.Proof.Block

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]
local notation "𝕄" => MT nD τ sig Unit (Elt F) ℕ (UR sig nD τ) ℕ

/-- The result read off the run is the block's, once its three ingredients are. -/
theorem out_congr {x1 x2 : Vec F S4x160x128 .f32} {x3 : Vec F S4x20000x40 .f32} {R : Vec F S4x128x48 .f32} {cv im : FVec F S4x1x128 .f32}
    (hR : R = picked x1 x2 x3) (hc : cv = confs x1 x2) (hi : im = overlaps (shapesOf R)) :
    outAt R cv im (fun _ => Scalar.ofBits .f32 0#32) k0_t15_loop.trips = kernelOut x1 x2 x3 := by
  subst hc hi hR; rfl

/-- The rows read off the run are the picked ones, once the selection starts where it should. -/
theorem picked_of {x1 x2 : Vec F S4x160x128 .f32} {x3 : Vec F S4x20000x40 .f32} {s : Sel F} {X : Vec F S4x128x48 .f32} {n : ℕ}
    (hs : s = sel0 x1 x2) (hX : X = k0_pay29) (hn : n = k0_t1_loop.trips) : rowsAt x3 s X n = picked x1 x2 x3 := by
  subst hs hX hn; rfl

/-- The confidences read off the run are the picked ones, once the selection starts where it should. -/
theorem confs_of {x1 x2 : Vec F S4x160x128 .f32} {s : Sel F} {n : ℕ} (hs : s = sel0 x1 x2) (hn : n = k0_t1_loop.trips) :
    (selAt s n).2 = confs x1 x2 := by
  subst hs hn; rfl

/-- The whole body on its six buffers: the inputs are left as they were, the result holds the block's value. -/
theorem kernelRun (c : Dev nD) (i : grid0.Coords) (arg1 : Memref sig .tc .vmem S4x160x128 .f32) (harg1 : arg1.IsWhole) (arg2 : Memref sig .tc .vmem S4x160x128 .f32) (harg2 : arg2.IsWhole) (arg3 : Memref sig .tc .vmem S4x20000x40 .f32) (harg3 : arg3.IsWhole) (arg4 : Memref sig .tc .vmem S4x50x41 .f32) (harg4 : arg4.IsWhole) (arg5 : Memref sig .tc .vmem S4x128x1024 .f32) (harg5 : arg5.IsWhole) (arg6 : Memref sig .tc .vmem S4x128x48 .f32) (harg6 : arg6.IsWhole)
    (x1 x2 : Vec F S4x160x128 .f32) (x3 : Vec F S4x20000x40 .f32)
      (K : PUnit → sProp 𝕄) :
        iprop(owns (c : Thread nD τ) arg1 fullShare x1 ∗ owns (c : Thread nD τ) arg2 fullShare x2 ∗ owns (c : Thread nD τ) arg3 fullShare x3 ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare (kernelOut x1 x2 x3)
            ∗ (∃ d, owns (c : Thread nD τ) arg5 fullShare d) ∗ (∃ d, owns (c : Thread nD τ) arg6 fullShare d)) -∗ K ⟨⟩))
          ⊢ wp frame (wpE (defs₀ (F := F)) 𝒱₀ c none) Set.univ (cc0__nms_kernel i arg1 harg1 arg2 harg2 arg3 harg3 arg4 harg4 arg5 harg5 arg6 harg6) K := by
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf1; obtain rfl := harg2.eq_unread hf2; obtain rfl := harg3.eq_unread hf3
  simp only [cc0__nms_kernel_eq_skeleton]; unfold cc0__nms_kernel_skel; simp only [k0_part6_eq_skeleton, k0_part7_eq_skeleton, k0_part8_eq_skeleton, k0_part9_eq_skeleton, k0_part10_eq_skeleton, k0_part11_eq_skeleton]
  sl_exec!
  sl_step
  iapply Hk
  isplitl [H1]
  · iexists _; isplitr
    · ipureintro; exact harg1.read_unread _
    · iexact H1
  isplitl [H2]
  · iexists _; isplitr
    · ipureintro; exact harg2.read_unread _
    · iexact H2
  isplitl [H3]
  · iexists _; isplitr
    · ipureintro; exact harg3.read_unread _
    · iexact H3
  isplitl [H4]
  · iexists _; isplitr
    swap
    · iexact H4
    ipureintro
    rw [read_x4At, outAt_any _ _ _ _ (fun _ => Scalar.ofBits .f32 0#32)]
    have e1 : arg1.view.readAt (Elt F) (Rect.unit (s := S4x160x128) ![0, 0, 0] S4x160x128.size inb_S4x160x128_S4x160x128_0_0_0).toLoadRect (harg1.unread x1) = x1 :=
      (View.readAt_full _ _ _).trans (harg1.read_unread x1)
    have e2 : arg2.view.readAt (Elt F) (Rect.unit (s := S4x160x128) ![0, 0, 0] S4x160x128.size inb_S4x160x128_S4x160x128_0_0_0).toLoadRect (harg2.unread x2) = x2 :=
      (View.readAt_full _ _ _).trans (harg2.read_unread x2)
    refine out_congr ?_ ?_ ?_
    · rw [read_x6At, harg3.read_unread]
      refine picked_of ?_ ?_ rfl
      · sl_unfold_words
        rw [e1, e2]
        rfl
      · exact View.read_writes_full (Val := Elt F) arg6.view _ _ _ _
    · refine confs_of ?_ rfl
      sl_unfold_words
      rw [e1, e2]
      rfl
    · symm
      refine overlaps_run 𝒱₀ c none i arg1 harg1 arg2 harg2 arg3 harg3 arg4 harg4 arg5 harg5 arg6 harg6 (shapesOf _) _ ?_
      exact View.read_writes_full (Val := Elt F) arg5.view _ _ _ _
  isplitl [H5]
  · iexists _; iexists _; isplitr
    swap
    · iexact H5
    · ipureintro; rfl
  · iexists _; iexists _; isplitr
    swap
    · iexact H6
    · ipureintro; rfl

end Cert.Proof.KernelIdeal
-- ==== Proof.Region.lean ====
/- What the pipeline's one grid point leaves: the body run on the staged blocks, the run of the whole program, and its frame. -/
module

public import proofs.«01_k».proof.Proof.Run

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal.Gen

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- The result's block at a point: the kernel's value at the three input blocks. -/
def outsAt (c : Dev nD) (t : Fin cfg0.N) : Vec F S4x50x41 .f32 := kernelOut (iblk m c 0 t) (iblk m c 1 t) (iblk m c 2 t)

/-- The proof data: the arrays as the region finds them, each input's buffer left at its block, the result's at `outsAt`,
    the two scratch buffers held at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

/-- The data's arrays are the region's. -/
theorem A_eq (c : Dev nD) (w : Fin cfg0.W) : (dats m 0 c).A w = V m c (Pipeline.arrRef spec0 w) := rfl
/-- The first input's buffer is left at its block. -/
theorem after0_0 (c : Dev nD) (t : Fin cfg0.N) : (dats m 0 c).after 0 t = iblk m c 0 t := by dsimp only [dats]
/-- The second input's buffer is left at its block. -/
theorem after0_1 (c : Dev nD) (t : Fin cfg0.N) : (dats m 0 c).after 1 t = iblk m c 1 t := by dsimp only [dats]
/-- The third input's buffer is left at its block. -/
theorem after0_2 (c : Dev nD) (t : Fin cfg0.N) : (dats m 0 c).after 2 t = iblk m c 2 t := by dsimp only [dats]
/-- The result's buffer is left at the block's value. -/
theorem after0_3 (c : Dev nD) (t : Fin cfg0.N) : (dats m 0 c).after 3 t = outsAt m c t := by dsimp only [dats]
/-- The first input's buffer holds its block when the body runs. -/
theorem before0_0 (c : Dev nD) (t : Fin cfg0.N) (d) : (dats m 0 c).before 0 t d = iblk m c 0 t :=
  before0_0_of m (dats m 0 c) (A_eq m c 0) (after0_0 m c) t d
/-- The second input's buffer holds its block when the body runs. -/
theorem before0_1 (c : Dev nD) (t : Fin cfg0.N) (d) : (dats m 0 c).before 1 t d = iblk m c 1 t :=
  before0_1_of m (dats m 0 c) (A_eq m c 1) (after0_1 m c) t d
/-- The third input's buffer holds its block when the body runs. -/
theorem before0_2 (c : Dev nD) (t : Fin cfg0.N) (d) : (dats m 0 c).before 2 t d = iblk m c 2 t :=
  before0_2_of m (dats m 0 c) (A_eq m c 2) (after0_2 m c) t d

/-- Scratch buffer 0's memref held at something is the buffer at some contents. -/
theorem owns_scratch0 (c : Dev nD) :
    (iprop(∃ d, owns (c : Thread nD τ) (Memref.whole cc0_scratch0) fullShare d) : sProp 𝕄)
      = iprop(∃ f : Buf (Elt F) ((c : Thread nD τ).loc cc0_scratch0), ((c : Thread nD τ).loc cc0_scratch0) ↦{fullShare} f) :=
  congrArg _ (funext fun f => owns_whole (c : Thread nD τ) cc0_scratch0 fullShare f)

/-- Scratch buffer 1's memref held at something is the buffer at some contents. -/
theorem owns_scratch1 (c : Dev nD) :
    (iprop(∃ d, owns (c : Thread nD τ) (Memref.whole cc0_scratch1) fullShare d) : sProp 𝕄)
      = iprop(∃ f : Buf (Elt F) ((c : Thread nD τ).loc cc0_scratch1), ((c : Thread nD τ).loc cc0_scratch1) ↦{fullShare} f) :=
  congrArg _ (funext fun f => owns_whole (c : Thread nD τ) cc0_scratch1 fullShare f)

/-- The body at a point takes the staged blocks to the result's block, the scratch buffers coming from the kept rest. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  unfold outsAt
  rw [show (dats m 0 c).Φ t.castSucc = Pipeline.ΦA spec0 c from rfl]
  unfold Pipeline.ΦA
  rw [scopedRest0_eq]
  iintro ⟨⟨⟨⟨%f5, H5⟩, ⟨%f6, H6⟩⟩, HR⟩, Ho, ⟨%d0, H0⟩, ⟨%d1, H1⟩, ⟨%d2, H2⟩, ⟨%d3, H3⟩⟩
  iapply (kernelRun (c := c) (x1 := iblk m c 0 t) (x2 := iblk m c 1 t) (x3 := iblk m c 2 t))
  isplitl [H0]; · iexact H0
  isplitl [H1]; · iexact H1
  isplitl [H2]; · iexact H2
  isplitl [H3]; · iexists _; iexact H3
  isplitl [H5]; · iapply (Entails.of_eq (owns_scratch0 c).symm); iexists _; iexact H5
  isplitl [H6]; · iapply (Entails.of_eq (owns_scratch1 c).symm); iexists _; iexact H6
  iintro ⟨H0, H1, H2, H3, H5, H6⟩
  isplitl [H5 H6 HR]
  · isplitl [H5 H6]
    · isplitl [H5]
      · iapply (Entails.of_eq (owns_scratch0 c)); iexact H5
      · iapply (Entails.of_eq (owns_scratch1 c)); iexact H6
    · iexact HR
  isplitl [Ho]; · iexact Ho
  isplitl [H0]; · iexact H0
  isplitl [H1]; · iexact H1
  isplitl [H2]; · iexact H2
  iexact H3

-- the implicit arguments of the library's theorem are found by unifying its conclusion with this one
set_option backward.isDefEq.respectTransparency.types false in
/-- Every execution of the program ends, every array of the pipeline at what the proof data say, every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Proof.KernelIdeal

end
-- ==== Proof.Frames.lean ====
/- The word-level kernel is the idealized one with each named constant read as its own word, definition by definition. -/
module

public import proofs.«01_k».proof.Proof.Gen.Kernel
public import proofs.«01_k».proof.Proof.Gen.ReferenceIdeal.Run
public import Idealize.ShloMosaic.Lib.Quiescent
public import proofs.«01_k».proof.Proof.Gen.KernelIdeal
public import proofs.«01_k».proof.Defs
public import proofs.«01_k».proof.Proof.Region
public import Idealize.ShloMosaic.Adequacy
public import Idealize.ShloMosaic.PureOps.Ideal
public import Idealize.ShloMosaic.Init

@[expose] public section

noncomputable section

namespace Cert.Proof

open Idealize.ShloMosaic Idealize.ShloMosaic.TcCoe

/-- The word itself read for every named constant. -/
@[instance_reducible] def named0 : Named Bits where named _ _ {φ} b := FloatOps.ofBits φ b

attribute [local instance] named0

attribute [local instance] Cert.Kernel.Gen.facts Cert.KernelIdeal.Gen.facts
/-- Part 6 of the body is the same in both. -/
theorem part6_eq : Cert.Kernel.k0_part6 (F := Bits) = Cert.KernelIdeal.k0_part6 (F := Bits) := rfl
/-- Part 7 of the body is the same in both. -/
theorem part7_eq : Cert.Kernel.k0_part7 (F := Bits) = Cert.KernelIdeal.k0_part7 (F := Bits) := rfl
/-- Part 8 of the body is the same in both. -/
theorem part8_eq : Cert.Kernel.k0_part8 (F := Bits) = Cert.KernelIdeal.k0_part8 (F := Bits) := rfl
/-- Part 9 of the body is the same in both. -/
theorem part9_eq : Cert.Kernel.k0_part9 (F := Bits) = Cert.KernelIdeal.k0_part9 (F := Bits) := rfl
/-- Part 10 of the body is the same in both. -/
theorem part10_eq : Cert.Kernel.k0_part10 (F := Bits) = Cert.KernelIdeal.k0_part10 (F := Bits) := rfl
/-- Part 11 of the body is the same in both. -/
theorem part11_eq : Cert.Kernel.k0_part11 (F := Bits) = Cert.KernelIdeal.k0_part11 (F := Bits) := rfl

/-- The whole body is the same in both. -/
theorem kernel_eq : Cert.Kernel.cc0__nms_kernel (F := Bits) = Cert.KernelIdeal.cc0__nms_kernel (F := Bits) := by
  unfold Cert.Kernel.cc0__nms_kernel Cert.KernelIdeal.cc0__nms_kernel
  rw [part6_eq, part7_eq, part8_eq, part9_eq, part10_eq, part11_eq]
  rfl
/-- The kernels' body table is the same in both. -/
theorem defs0_eq : Cert.Kernel.defs₀ (F := Bits) = Cert.KernelIdeal.defs₀ (F := Bits) := by
  unfold Cert.Kernel.defs₀ Cert.KernelIdeal.defs₀
  rw [kernel_eq]
  refine congrArg Defs.onTc (funext fun l => funext fun x => ?_)
  match l, x with
  | 0, (t, s) => rfl
  | ⟨n + 1, h⟩, _ => exact absurd h (Nat.not_lt.2 (Nat.le_add_left _ _))
/-- The whole body table is the same in both. -/
theorem defs_eq : Cert.Kernel.defs (F := Bits) = Cert.KernelIdeal.defs (F := Bits) := by
  unfold Cert.Kernel.defs Cert.KernelIdeal.defs
  rw [defs0_eq]
  rfl

/-- The main program is the same in both. -/
theorem main_eq : Cert.Kernel.main (F := Bits) = Cert.KernelIdeal.main (F := Bits) := rfl

/-- The word-level kernel's frame is the idealized one's, at words. -/
theorem quiescent_Kernel : Cert.quiescent_Kernel (hKernel := Cert.Kernel.Gen.facts) := by
  intro m g _
  rw [defs_eq, main_eq]
  exact Cert.Proof.KernelIdeal.frame (F := Bits) m g

/-- The idealized kernel's frame. -/
theorem quiescent_KernelIdeal : Cert.quiescent_KernelIdeal (hKernelIdeal := Cert.KernelIdeal.Gen.facts) :=
  fun m g _ => Cert.Proof.KernelIdeal.frame (F := Ideal) m g

/-- The reference's frame: its operations write no argument, and it has no semaphore. -/
theorem quiescent_ReferenceIdeal : Cert.quiescent_ReferenceIdeal (hReferenceIdeal := Cert.ReferenceIdeal.Gen.facts) := by
  intro m g _
  refine (θ_run _ _ _).mono (fun r h => ⟨fun c => (h c).2, sem_eq_zero_of_no_sems (by decide) r.2⟩) (Cert.ReferenceIdeal.Value.run (F := Ideal) m g)

/-- The named constant's word rounds to the number it names. -/
theorem preserves : Cert.preserves_Kernel_KernelIdeal :=
  IdealRules.named_const.statement Cert.KernelIdeal.κ "inv31" .f32 0x3D042108#32 ((31⁻¹ : ℝ) : EReal) rfl

end Cert.Proof

end
-- ==== Proof.Greatest.lean ====
/- Repeated selection of the greatest entry, the least position first, is the stable sort by "greater", cut to a prefix. -/
module

public import Idealize.ShloMosaic.Lib.SortPrefix
public import Idealize.ShloMosaic.PureOps.Ideal

@[expose] public section

noncomputable section

namespace Cert.Proof

open Idealize.ShloMosaic

/-- `σ` lists the `k` greatest entries of `f`, greater first, equal ones by position: each is different from the earlier ones,
    and every entry not listed earlier is less, or equal and not before. -/
def Picks {n k : ℕ} (f : Fin n → EReal) (σ : Fin k → Fin n) : Prop :=
  ∀ t : Fin k, (∀ s : Fin k, s < t → σ s ≠ σ t) ∧ ∀ p, (∀ s : Fin k, s < t → σ s ≠ p) → f p < f (σ t) ∨ (f p = f (σ t) ∧ σ t ≤ p)

/-- The stable sort asks its comparator only about a later element against an earlier one. -/
theorem stableSort_congr_of_pairwise {ι : Type} (B B' : ι → ι → Bool) (l : List ι) (h : l.Pairwise fun a b => B b a = B' b a) :
    stableSort B l = stableSort B' l := by
  induction l with
  | nil => rfl
  | cons a l ih =>
    rw [List.pairwise_cons] at h
    unfold stableSort
    rw [ih h.2]
    exact Idealize.ShloMosaic.insertBefore_congr B B' a _ fun b hb => h.1 b ((perm_stableSort B' l).mem_iff.mp hb)

/-- The listed entries are the first of the stable sort by "greater". -/
theorem sortedFrom_of_picks {n k : ℕ} (f : Fin n → EReal) (σ : Fin k → Fin n) (h : Picks f σ) (hk : k ≤ n) (B : Fin n → Fin n → Bool)
    (hB : ∀ a b, B a b = decide (f b < f a)) (t : Fin k) : sortedFrom B (t.castLE hk) = σ t := by
  classical
  have hs := StrictTotalBefore.of_key_then_position (fun a b : EReal => decide (b < a)) f (by simp)
    (by intro a b c; simp only [decide_eq_true_eq]; exact fun h1 h2 => h2.trans h1)
    (by intro a b; simp only [decide_eq_true_eq]; rcases lt_trichotomy a b with h | h | h <;> simp [h])
  have e : sortPositions n B = sortPositions n fun k k' : Fin n => decide (f k' < f k) || (decide (f k = f k') && decide (k < k')) := by
    refine stableSort_congr_of_pairwise _ _ _ ?_
    refine (List.pairwise_lt_finRange n).imp fun {a b} hab => ?_
    rw [hB, Bool.eq_iff_iff]
    simp only [decide_eq_true_eq, Bool.or_eq_true, Bool.and_eq_true]
    constructor
    · exact Or.inl
    · rintro (h | ⟨-, h⟩)
      · exact h
      · exact absurd h (not_lt.mpr hab.le)
  have e2 : sortedFrom B = sortedFrom fun k k' : Fin n => decide (f k' < f k) || (decide (f k = f k') && decide (k < k')) := by
    funext i; unfold sortedFrom; exact List.get_of_eq e _
  rw [e2]
  have key : ∀ (t : Fin k) p, (∀ s : Fin k, s < t → σ s ≠ p) →
      (decide (f (σ t) < f p) || (decide (f p = f (σ t)) && decide (p < σ t))) = false := by
    intro t p hp
    rcases (h t).2 p hp with h1 | ⟨h1, h2⟩
    · simp [h1.ne, h1.le]
    · simp [h1, h2]
  refine hs.sortedFrom_eq_of_prefix hk σ ?_ ?_ ?_ t
  · intro a b hab
    rcases lt_trichotomy a b with hl | hl | hl
    · exact absurd hab ((h b).1 a hl)
    · exact hl
    · exact absurd hab.symm ((h a).1 b hl)
  · intro i j hij
    exact key i (σ j) fun s hs => (h j).1 s (hs.trans hij)
  · intro i p hp
    exact key i p fun s _ => hp s

/-- `r` is the first of the positions at which `q` is greatest. -/
def First {ι : Type} (pos : ι → ℕ) (q : ι → EReal) (r : ι) : Prop := ∀ p, q p < q r ∨ (q p = q r ∧ pos r ≤ pos p)

/-- What stands at `p` before round `t`: the entry, or nothing once it has been taken. -/
theorem taken {ι : Type} [DecidableEq ι] (q : ℕ → ι → EReal) (r : ℕ → ι) (hq : ∀ t p, q (t + 1) p = if p = r t then ⊥ else q t p) (t : ℕ) (p : ι) :
    ((∀ s < t, r s ≠ p) → q t p = q 0 p) ∧ ((∃ s, s < t ∧ r s = p) → q t p = ⊥) := by
  induction t with
  | zero => exact ⟨fun _ => rfl, fun ⟨s, h, _⟩ => absurd h (by omega)⟩
  | succ t ih =>
    rw [hq]
    constructor
    · intro h
      rw [if_neg (fun e => h t (by omega) e.symm)]
      exact ih.1 fun s hs => h s (by omega)
    · rintro ⟨s, hs, e⟩
      by_cases hp : p = r t
      · rw [if_pos hp]
      · rw [if_neg hp]
        refine ih.2 ⟨s, ?_, e⟩
        rcases Nat.lt_succ_iff_lt_or_eq.mp hs with h | rfl
        · exact h
        · exact absurd e.symm hp

/-- Taking the first greatest entry over and over (first at least when an entry of `f` is the greatest), among entries `f` in order (at `e`) and others that are all less, lists the
    greatest entries of `f`. -/
theorem picks_of_rounds {ι : Type} [DecidableEq ι] {n k : ℕ} (pos : ι → ℕ) (q : ℕ → ι → EReal) (r : ℕ → ι) (e : Fin n → ι) (f : Fin n → EReal)
    (hkn : k ≤ n) (hpos : ∀ m, pos (e m) = m.val)
    (hr : ∀ t < k, (∃ m, ∀ p, q t p ≤ q t (e m)) → First pos (q t) (r t)) (hq : ∀ t p, q (t + 1) p = if p = r t then ⊥ else q t p)
    (hf : ∀ m, q 0 (e m) = f m) (hbot : ∀ m, ⊥ < f m) (hout : ∀ p, (∀ m, e m ≠ p) → ∀ m, q 0 p < f m) :
    ∃ σ : Fin k → Fin n, Picks f σ ∧ ∀ t : Fin k, r t = e (σ t) ∧ q t (r t) = f (σ t) ∧ ∀ p, q t p ≤ q t (r t) := by
  classical
  have einj : Function.Injective e := fun a b hab => Fin.ext (by rw [← hpos a, ← hpos b, hab])
  -- before round `t` some entry has not been taken
  have free : ∀ t < k, ∃ m, ∀ s < t, r s ≠ e m := by
    intro t ht
    by_contra hc
    push Not at hc
    choose s hs he using hc
    have hinj : Function.Injective fun m : Fin n => (⟨s m, hs m⟩ : Fin t) := by
      intro a b hab
      have : s a = s b := congrArg Fin.val hab
      exact einj ((he a).symm.trans ((congrArg r this).trans (he b)))
    have := Fintype.card_le_of_injective _ hinj
    simp only [Fintype.card_fin] at this
    omega
  -- so the greatest value is that of an entry
  have hr : ∀ t < k, First pos (q t) (r t) := by
    intro t ht
    obtain ⟨m, hm⟩ := free t ht
    have h0 : q t (e m) = f m := ((taken q r hq t (e m)).1 hm).trans (hf m)
    haveI : Nonempty (Fin n) := ⟨m⟩
    obtain ⟨m₀, hm₀⟩ := Finite.exists_max fun m => q t (e m)
    refine hr t ht ⟨m₀, fun p => ?_⟩
    by_cases hp : ∃ m', e m' = p
    · obtain ⟨m', rfl⟩ := hp; exact hm₀ m'
    · push Not at hp
      have h1 : q t p ≤ f m := by
        by_cases hs : ∃ s, s < t ∧ r s = p
        · rw [(taken q r hq t p).2 hs]; exact bot_le
        · push Not at hs; rw [(taken q r hq t p).1 hs]; exact (hout p hp m).le
      exact h1.trans (h0 ▸ hm₀ m)
  have main : ∀ t < k, (∀ s < t, r s ≠ r t) ∧ ∃ m, r t = e m := by
    intro t ht
    obtain ⟨m, hm⟩ := free t ht
    have h0 : q t (e m) = f m := ((taken q r hq t (e m)).1 hm).trans (hf m)
    have hge : f m ≤ q t (r t) := by
      rcases hr t ht (e m) with h | ⟨h, -⟩
      · rw [← h0]; exact h.le
      · rw [← h0]; exact h.le
    have h1 : ∀ s < t, r s ≠ r t := by
      intro s hs es
      rw [(taken q r hq t (r t)).2 ⟨s, hs, es⟩] at hge
      exact absurd (hbot m) (not_lt.mpr hge)
    refine ⟨h1, ?_⟩
    by_contra hc
    push Not at hc
    have := hout (r t) (fun m' h => hc m' h.symm) m
    rw [← (taken q r hq t (r t)).1 h1] at this
    exact absurd this (not_lt.mpr hge)
  choose σ' hσ using fun t : Fin k => (main t.val t.isLt).2
  refine ⟨σ', ?_, fun t => ⟨hσ t, ?_, fun p => (hr t t.isLt p).elim le_of_lt fun h => h.1.le⟩⟩
  · intro t
    refine ⟨fun s hst hs => (main t t.isLt).1 s hst (by rw [hσ s, hσ t, hs]), ?_⟩
    intro p hp
    have hp' : ∀ s < t.val, r s ≠ e p := by
      intro s hs he
      have := hσ ⟨s, hs.trans t.isLt⟩
      exact hp ⟨s, hs.trans t.isLt⟩ hs (einj (this.symm.trans he))
    have h0 : q t (e p) = f p := ((taken q r hq t (e p)).1 hp').trans (hf p)
    have h1 : q t (r t) = f (σ' t) := by
      rw [(taken q r hq t (r t)).1 (main t t.isLt).1, hσ t, hf]
    have := hr t t.isLt (e p)
    rw [h0, h1, hσ t, hpos, hpos] at this
    exact this
  · rw [(taken q r hq t (r t)).1 (main t t.isLt).1, hσ t, hf]

end Cert.Proof

end
-- ==== Proof.Lookups.lean ====
/- The host's gathers and top-k, read at an index. -/
module

public import proofs.«01_k».proof.Proof.Greatest
public import Idealize.ShloMosaic.Lib.Pointwise

@[expose] public section

noncomputable section

namespace Cert.Proof

open Idealize.ShloMosaic

/-- The first of a two-element list. -/
theorem get_zero {α : Type} (a c : α) (L : List α) (k : ℕ) (h : k < L.length) (hL : L = [a, c]) (hk : k = 0) : L[k]'h = a := by
  subst hL hk; rfl
/-- The second of a two-element list. -/
theorem get_one {α : Type} (a c : α) (L : List α) (k : ℕ) (h : k < L.length) (hL : L = [a, c]) (hk : k = 1) : L[k]'h = c := by
  subst hL hk; rfl
/-- The one entry of a one-element list. -/
theorem get_only {α : Type} (a : α) (L : List α) (k : ℕ) (h : k < L.length) (hL : L = [a]) (hk : k = 0) : L[k]'h = a := by
  subst hL hk; rfl

/-- A small number's word, read signed and cut at a bound it keeps. -/
theorem clamp_word (r n : ℕ) (hr : r < n) (hn : n ≤ 20000) : min (BitVec.ofNat 32 r).toInt.toNat (n - 1) = r := by
  rw [BitVec.toInt_ofNat', Int.bmod_eq_of_le (by push_cast; omega) (by push_cast; omega)]
  omega

/-- Rows picked by pairs (batch, row): where the indices hold a batch's and a row's numbers, the result holds that row. -/
theorem gather_pair {α : Type} {B n m w : ℕ} (d : GatherDims ⟨3, ![B, n, w]⟩ ⟨3, ![B, m, 2]⟩ ⟨3, ![B, m, w]⟩)
    (hoff : d.offsetDims = [2]) (hcoll : d.collapsedSliceDims = [0, 1]) (hob : d.operandBatchingDims = [])
    (hsim : d.startIndexMap = [0, 1]) (hivd : d.indexVectorDim = 2) (x : (⟨3, ![B, n, w]⟩ : Shape).Idx → α) (idx : IVec ⟨3, ![B, m, 2]⟩ 32)
    (b : Fin B) (t : Fin m) (l : Fin w) (r : Fin n) (hB : B ≤ 20000) (hn : n ≤ 20000)
    (h0 : idx (ix3 b t 0) = BitVec.ofNat 32 b.val) (h1 : idx (ix3 b t 1) = BitVec.ofNat 32 r.val) :
    Host.gather d x idx (ix3 b t l) = x (ix3 b r l) := by
  have hbd : d.batchDims = [0, 1] := by unfold GatherDims.batchDims Shape.kept; rw [hoff]; exact (by decide : (List.finRange 3).filter (fun x => decide (x ∉ [2])) = [0, 1])
  have hsk : d.siKept = [0, 1] := by unfold GatherDims.siKept; rw [hivd]; exact (by decide : (List.finRange 3).filter (fun x => decide (x.val ≠ 2)) = [0, 1])
  have hkp : d.sKept = [2] := by unfold GatherDims.sKept Shape.kept; rw [hcoll, hob]; exact (by decide : (List.finRange 3).filter (fun x => decide (x ∉ [0, 1] ++ [])) = [2])
  have hbN : ∀ a', a' ∉ d.operandBatchingDims := fun a' => by rw [hob]; exact List.not_mem_nil
  have hsi : ∀ (c : Fin d.startIndexMap.length) (e : Fin 2), c.val = e.val → d.siIdx (ix3 b t l) c = ix3 b t e := by
    intro c e hc
    funext a
    apply Fin.ext
    unfold GatherDims.siIdx
    match a with
    | ⟨0, _⟩ =>
      rw [dif_neg (by rw [hivd]; exact (by decide : (0 : ℕ) ≠ 2))]
      unfold GatherDims.siCoord
      simp only [Fin.val_cast]
      rw [get_zero 0 1 d.batchDims _ _ hbd (by rw [hsk]; rfl)]
      rfl
    | ⟨1, _⟩ =>
      rw [dif_neg (by rw [hivd]; exact (by decide : (1 : ℕ) ≠ 2))]
      unfold GatherDims.siCoord
      simp only [Fin.val_cast]
      rw [get_one 0 1 d.batchDims _ _ hbd (by rw [hsk]; rfl)]
      rfl
    | ⟨2, _⟩ =>
      rw [dif_pos (by rw [hivd])]
      exact hc
  unfold Host.gather
  refine congrArg x (funext fun a => Fin.ext ?_)
  match a with
  | ⟨0, _⟩ =>
    have hm : (0 : Fin 3) ∈ d.startIndexMap := by rw [hsim]; exact (by decide : (0 : Fin 3) ∈ [(0 : Fin 3), 1])
    have hsl : d.sliceSizes 0 = 1 := d.slice_collapsed 0 (by rw [hcoll]; exact (by decide : (0 : Fin 3) ∈ [(0 : Fin 3), 1]))
    show d.start (ix3 b t l) idx 0 + d.batchCoord (ix3 b t l) 0 + d.offCoord (ix3 b t l) 0 = b.val
    rw [d.batchCoord_eq_zero _ _ (hbN 0), d.offCoord_eq_zero _ _ (by rw [hkp]; exact (by decide : (0 : Fin 3) ∉ [(2 : Fin 3)]))]
    unfold GatherDims.start
    rw [dif_pos hm, hsi _ 0 (by show d.startIndexMap.idxOf (0 : Fin 3) = 0; rw [hsim]; rfl), h0, hsl]
    exact clamp_word b.val B b.isLt hB
  | ⟨1, _⟩ =>
    have hm : (1 : Fin 3) ∈ d.startIndexMap := by rw [hsim]; exact (by decide : (1 : Fin 3) ∈ [(0 : Fin 3), 1])
    have hsl : d.sliceSizes 1 = 1 := d.slice_collapsed 1 (by rw [hcoll]; exact (by decide : (1 : Fin 3) ∈ [(0 : Fin 3), 1]))
    show d.start (ix3 b t l) idx 1 + d.batchCoord (ix3 b t l) 1 + d.offCoord (ix3 b t l) 1 = r.val
    rw [d.batchCoord_eq_zero _ _ (hbN 1), d.offCoord_eq_zero _ _ (by rw [hkp]; exact (by decide : (1 : Fin 3) ∉ [(2 : Fin 3)]))]
    unfold GatherDims.start
    rw [dif_pos hm, hsi _ 1 (by show d.startIndexMap.idxOf (1 : Fin 3) = 1; rw [hsim]; rfl), h1, hsl]
    exact clamp_word r.val n r.isLt hn
  | ⟨2, _⟩ =>
    show d.start (ix3 b t l) idx 2 + d.batchCoord (ix3 b t l) 2 + d.offCoord (ix3 b t l) 2 = l.val
    rw [d.batchCoord_eq_zero _ _ (hbN 2)]
    unfold GatherDims.start GatherDims.offCoord
    rw [dif_neg (by rw [hsim]; exact (by decide : (2 : Fin 3) ∉ [(0 : Fin 3), 1])), dif_pos (by rw [hkp]; exact (by decide : (2 : Fin 3) ∈ [(2 : Fin 3)])), get_only 2 d.offsetDims _ _ hoff (by rw [hkp]; rfl)]
    show 0 + 0 + l.val = l.val
    omega

/-- Entries picked along each batch's line: where the indices hold a place's number, the result holds that entry. -/
theorem gather_line {α : Type} {B n m : ℕ} (d : GatherDims ⟨2, ![B, n]⟩ ⟨3, ![B, m, 1]⟩ ⟨2, ![B, m]⟩)
    (hoff : d.offsetDims = []) (hcoll : d.collapsedSliceDims = [1]) (hob : d.operandBatchingDims = [0]) (hsb : d.startIndicesBatchingDims = [0])
    (hsim : d.startIndexMap = [1]) (hivd : d.indexVectorDim = 2) (x : (⟨2, ![B, n]⟩ : Shape).Idx → α) (idx : IVec ⟨3, ![B, m, 1]⟩ 32)
    (b : Fin B) (t : Fin m) (r : Fin n) (hn : n ≤ 20000) (h1 : idx (ix3 b t 0) = BitVec.ofNat 32 r.val) :
    Host.gather d x idx (ix2 b t) = x (ix2 b r) := by
  have hbd : d.batchDims = [0, 1] := by unfold GatherDims.batchDims Shape.kept; rw [hoff]; exact (by decide : (List.finRange 2).filter (fun x => decide (x ∉ [])) = [0, 1])
  have hsk : d.siKept = [0, 1] := by unfold GatherDims.siKept; rw [hivd]; exact (by decide : (List.finRange 3).filter (fun x => decide (x.val ≠ 2)) = [0, 1])
  have hkp : d.sKept = [] := by unfold GatherDims.sKept Shape.kept; rw [hcoll, hob]; exact (by decide : (List.finRange 2).filter (fun x => decide (x ∉ [1] ++ [0])) = [])
  have hsi : ∀ (c : Fin d.startIndexMap.length), c.val = 0 → d.siIdx (ix2 b t) c = ix3 b t 0 := by
    intro c hc
    funext a
    apply Fin.ext
    unfold GatherDims.siIdx
    match a with
    | ⟨0, _⟩ =>
      rw [dif_neg (by rw [hivd]; exact (by decide : (0 : ℕ) ≠ 2))]
      unfold GatherDims.siCoord
      simp only [Fin.val_cast]
      rw [get_zero 0 1 d.batchDims _ _ hbd (by rw [hsk]; rfl)]
      rfl
    | ⟨1, _⟩ =>
      rw [dif_neg (by rw [hivd]; exact (by decide : (1 : ℕ) ≠ 2))]
      unfold GatherDims.siCoord
      simp only [Fin.val_cast]
      rw [get_one 0 1 d.batchDims _ _ hbd (by rw [hsk]; rfl)]
      rfl
    | ⟨2, _⟩ =>
      rw [dif_pos (by rw [hivd])]
      exact hc
  unfold Host.gather
  refine congrArg x (funext fun a => Fin.ext ?_)
  match a with
  | ⟨0, _⟩ =>
    have hm : (0 : Fin 2) ∈ d.operandBatchingDims := by rw [hob]; exact (by decide : (0 : Fin 2) ∈ [(0 : Fin 2)])
    show d.start (ix2 b t) idx 0 + d.batchCoord (ix2 b t) 0 + d.offCoord (ix2 b t) 0 = b.val
    rw [d.start_batching _ _ _ hm, d.offCoord_eq_zero _ _ (by rw [hkp]; exact List.not_mem_nil)]
    unfold GatherDims.batchCoord GatherDims.siCoord
    rw [dif_pos hm]
    simp only [Fin.val_cast]
    rw [get_zero 0 1 d.batchDims _ _ hbd (by rw [hsk, get_only 0 d.startIndicesBatchingDims _ _ hsb (by rw [hob]; rfl)]; rfl)]
    show 0 + b.val + 0 = b.val
    omega
  | ⟨1, _⟩ =>
    have hm : (1 : Fin 2) ∈ d.startIndexMap := by rw [hsim]; exact (by decide : (1 : Fin 2) ∈ [(1 : Fin 2)])
    have hsl : d.sliceSizes 1 = 1 := d.slice_collapsed 1 (by rw [hcoll]; exact (by decide : (1 : Fin 2) ∈ [(1 : Fin 2)]))
    show d.start (ix2 b t) idx 1 + d.batchCoord (ix2 b t) 1 + d.offCoord (ix2 b t) 1 = r.val
    rw [d.batchCoord_eq_zero _ _ (by rw [hob]; exact (by decide : (1 : Fin 2) ∉ [(0 : Fin 2)])), d.offCoord_eq_zero _ _ (by rw [hkp]; exact List.not_mem_nil)]
    unfold GatherDims.start
    rw [dif_pos hm, hsi _ (by show d.startIndexMap.idxOf (1 : Fin 2) = 0; rw [hsim]; rfl), h1, hsl]
    exact clamp_word r.val n r.isLt hn

/-- The top-k of each batch's line: the picks' entries and their places. -/
theorem topK_at {B n k : ℕ} (x : (⟨2, ![B, n]⟩ : Shape).Idx → EReal) (h) (b : Fin B) (σ : Fin k → Fin n) (hσ : Picks (fun p => x (ix2 b p)) σ)
    (hk : k ≤ n) (t : Fin k) :
    (Host.topK (s := ⟨2, ![B, n]⟩) ⟨2, ![B, k]⟩ 1 (FloatOps.cmpfTotal (F := Ideal) (φ := .f32) .gt) x h).1 (ix2 b t) = x (ix2 b (σ t))
    ∧ (Host.topK (s := ⟨2, ![B, n]⟩) ⟨2, ![B, k]⟩ 1 (FloatOps.cmpfTotal (F := Ideal) (φ := .f32) .gt) x h).2 (ix2 b t) = BitVec.ofNat 32 (σ t).val := by
  have hj : (fun a : Fin 2 => (⟨0 + (ix2 b t (a.cast h.1.symm)).val, Nat.lt_of_lt_of_le (Nat.add_lt_add_left (ix2 b t _).isLt _) (h.2 a)⟩ : Fin ((⟨2, ![B, n]⟩ : Shape).size a)))
      = ix2 b (t.castLE hk) := by
    funext a
    apply Fin.ext
    match a with
    | ⟨0, _⟩ => exact Nat.zero_add _
    | ⟨1, _⟩ => exact Nat.zero_add _
  have hal : ∀ (p q : Fin n) (h1 : 1 < 2), (ix2 b p).along (⟨1, h1⟩ : Fin 2) q = ix2 b q := by
    intro p q h1
    funext a
    match a with
    | ⟨0, _⟩ => rfl
    | ⟨1, _⟩ => rfl
  have hs := sortedFrom_of_picks (fun p => x (ix2 b p)) σ hσ hk (fun a c => Ideal.cmp .ogt (x (ix2 b a)) (x (ix2 b c)) == 1#1)
    (by intro a c; unfold Ideal.cmp; by_cases hc : x (ix2 b c) < x (ix2 b a) <;> simp [hc]) t
  unfold Host.topK Host.sort2 extractStridedSlice
  dsimp only
  rw [dif_pos (show 1 < (⟨2, ![B, n]⟩ : Shape).rank from Nat.one_lt_two)]
  dsimp only
  simp only [hj]
  have e : ∀ (J : Fin n → (⟨2, ![B, n]⟩ : Shape).Idx) (_ : ∀ q, J q = ix2 b q) (hz : 0 + t.val < n),
      J (sortedFrom (fun a c => FloatOps.cmpfTotal (F := Ideal) (φ := .f32) .gt (x (J a)) (x (J c)) == 1#1) ⟨0 + t.val, hz⟩) = ix2 b (σ t) := by
    intro J hJ hz
    obtain rfl : J = fun q => ix2 b q := funext hJ
    exact congrArg (ix2 b) ((congrArg (sortedFrom _) (Fin.ext (Nat.zero_add _))).trans hs)
  have e' := e (fun q => (ix2 b (t.castLE hk)).along (⟨1, Nat.one_lt_two⟩ : Fin 2) q) (fun q => hal _ q _) (by have := t.isLt; omega)
  refine ⟨congrArg x e', ?_⟩
  exact congrArg (fun z : (⟨2, ![B, n]⟩ : Shape).Idx => BitVec.ofNat 32 (z 1).val) e'

end Cert.Proof

end
-- ==== Proof.Math.lean ====
/- The scalar mathematics both programs are made of, over the extended reals: the float literals, the share of the
   second class, the Gaussian and the overlap of two Gaussians. -/
module

public import Idealize.ShloMosaic.PureOps.Ideal.Laws
public import Idealize.ShloMosaic.Lib.IdealHost

@[expose] public section

noncomputable section

namespace Cert.Proof

open Idealize.ShloMosaic

/-- The word of `-∞`. -/
theorem bits_bot : Ideal.ofBits .f32 4286578688#32 = ⊥ := by simp [Ideal.ofBits, Ideal.ieee]
/-- The word of `+∞`. -/
theorem bits_top : Ideal.ofBits .f32 2139095040#32 = ⊤ := by simp [Ideal.ofBits, Ideal.ieee]
/-- The word of `-1`. -/
theorem bits_neg_one : Ideal.ofBits .f32 3212836864#32 = ((-1 : ℝ) : EReal) := by
  simp [Ideal.ofBits, Ideal.ieee]
  norm_num [← EReal.coe_mul]
/-- The word of `2`. -/
theorem bits_two : Ideal.ofBits .f32 1073741824#32 = ((2 : ℝ) : EReal) := by
  simp [Ideal.ofBits, Ideal.ieee]
  norm_num [← EReal.coe_mul]
/-- The word of `1/2`. -/
theorem bits_half : Ideal.ofBits .f32 1056964608#32 = ((2⁻¹ : ℝ) : EReal) := by
  simp [Ideal.ofBits, Ideal.ieee]
  norm_num [← EReal.coe_mul]
/-- The word of `31`. -/
theorem bits_31 : Ideal.ofBits .f32 1106771968#32 = ((31 : ℝ) : EReal) := by
  simp [Ideal.ofBits, Ideal.ieee]
  norm_num [← EReal.coe_mul]
/-- The small positive constant added to every denominator. -/
theorem bits_eps : ∃ ε : ℝ, 0 < ε ∧ Ideal.ofBits .f32 897988541#32 = (ε : EReal) := by
  refine ⟨_, ?_, by simp [Ideal.ofBits, Ideal.ieee]; rfl⟩
  norm_num

/-- The exponential of a number at most zero lies between zero and one. -/
theorem exp_mem {x : EReal} (h : x ≤ 0) : ∃ r : ℝ, 0 ≤ r ∧ r ≤ 1 ∧ Ideal.exp x = r := by
  induction x with
  | bot => exact ⟨0, le_rfl, zero_le_one, rfl⟩
  | top => exact absurd h (by simp)
  | coe r => exact ⟨Real.exp r, (Real.exp_pos r).le, Real.exp_le_one_iff.mpr (by exact_mod_cast h), rfl⟩

/-- The second class's share in the softmax of two numbers. -/
def share (a b : EReal) : EReal := Ideal.div (Ideal.exp (b - max a b)) (Ideal.exp (a - max a b) + Ideal.exp (b - max a b))

/-- The share is not negative, if the greater of the two is finite. -/
theorem share_nonneg (a b : EReal) (h1 : ⊥ < max a b) (h2 : max a b < ⊤) : 0 ≤ share a b := by
  obtain ⟨m, hm⟩ : ∃ m : ℝ, max a b = m := ⟨(max a b).toReal, (EReal.coe_toReal h2.ne h1.ne').symm⟩
  have ha : a - max a b ≤ 0 := by rw [hm, EReal.sub_nonpos, ← hm]; exact le_max_left a b
  have hb : b - max a b ≤ 0 := by rw [hm, EReal.sub_nonpos, ← hm]; exact le_max_right a b
  obtain ⟨ra, ra0, -, ea⟩ := exp_mem ha
  obtain ⟨rb, rb0, -, eb⟩ := exp_mem hb
  have hpos : 0 < ra + rb := by
    have h0 : Ideal.exp ((m : EReal) - m) = 1 := by
      rw [← EReal.coe_sub, sub_self]; show ((Real.exp 0 : ℝ) : EReal) = 1; simp
    rcases le_total a b with hab | hab
    · rw [max_eq_right hab] at hm
      rw [max_eq_right hab, hm, h0] at eb
      have : rb = 1 := by exact_mod_cast eb.symm
      linarith
    · rw [max_eq_left hab] at hm
      rw [max_eq_left hab, hm, h0] at ea
      have : ra = 1 := by exact_mod_cast ea.symm
      linarith
  unfold share
  rw [ea, eb, ← EReal.coe_add]
  unfold Ideal.div
  rw [if_neg (by exact_mod_cast hpos.ne'), ← EReal.coe_inv, ← EReal.coe_mul]
  have : 0 ≤ rb * (ra + rb)⁻¹ := mul_nonneg rb0 (inv_nonneg.mpr hpos.le)
  exact_mod_cast this

/-- A square is not negative. -/
theorem sq_nonneg' (x : EReal) : 0 ≤ x * x := by
  rcases le_total 0 x with h | h
  · exact mul_nonneg h h
  · have := EReal.mul_nonneg_iff (a := x) (b := x) |>.mpr (Or.inr ⟨h, h⟩)
    exact this

/-- The denominator of one axis: twice the half width squared, and the small constant. -/
def denom (w : EReal) : EReal :=
  Ideal.ofBits .f32 1073741824#32 * (w * Ideal.ofBits .f32 1056964608#32 * (w * Ideal.ofBits .f32 1056964608#32)) + Ideal.ofBits .f32 897988541#32

/-- The denominator is positive. -/
theorem denom_pos (w : EReal) : 0 < denom w := by
  obtain ⟨ε, h0, h⟩ := bits_eps
  unfold denom
  rw [h, bits_two]
  have h1 : (0 : EReal) ≤ ((2 : ℝ) : EReal) * (w * Ideal.ofBits .f32 1056964608#32 * (w * Ideal.ofBits .f32 1056964608#32)) :=
    mul_nonneg (by exact_mod_cast (by norm_num : (0 : ℝ) ≤ 2)) (sq_nonneg' _)
  calc (0 : EReal) < (ε : EReal) := by exact_mod_cast h0
    _ = 0 + (ε : EReal) := (zero_add _).symm
    _ ≤ _ := by gcongr

/-- Division by a positive number is multiplication by its quotient. -/
theorem mul_div_one {x d : EReal} (h : 0 < d) : x * Ideal.div 1 d = Ideal.div x d := by
  unfold Ideal.div
  rw [if_neg h.ne', if_neg h.ne', one_mul]

/-- Half, as a quotient and as a product. -/
theorem div_two (w : EReal) : Ideal.div w (Ideal.ofBits .f32 1073741824#32) = w * Ideal.ofBits .f32 1056964608#32 := by
  rw [bits_two, bits_half]
  unfold Ideal.div
  rw [if_neg (by exact_mod_cast (two_ne_zero : (2 : ℝ) ≠ 0)), ← EReal.coe_inv]

/-- The Gaussian at the point (x, y), with centre (cx, cy) and widths (w, h). -/
def bump (cx cy w h x y : EReal) : EReal :=
  Ideal.exp (0 - ((x - cx) * (x - cx) * Ideal.div 1 (denom w) + (y - cy) * (y - cy) * Ideal.div 1 (denom h)))

/-- The Gaussian lies between zero and one. -/
theorem bump_mem (cx cy w h x y : EReal) : ∃ r : ℝ, 0 ≤ r ∧ r ≤ 1 ∧ bump cx cy w h x y = r := by
  refine exp_mem ?_
  have key : ∀ a d : EReal, 0 ≤ a → 0 < d → 0 ≤ a * Ideal.div 1 d := by
    intro a d ha hd
    refine mul_nonneg ha ?_
    unfold Ideal.div
    rw [if_neg hd.ne', one_mul]
    exact EReal.inv_nonneg_of_nonneg hd.le
  have := add_nonneg (key _ _ (sq_nonneg' (x - cx)) (denom_pos w)) (key _ _ (sq_nonneg' (y - cy)) (denom_pos h))
  rw [zero_sub, EReal.neg_le, neg_zero]
  exact this

end Cert.Proof

end
-- ==== Proof.Chosen.lean ====
/- What the kernel's selection loop picks: the hundred greatest shares, greater first, equal ones by row. -/
module

public import proofs.«01_k».proof.Proof.Block
public import proofs.«01_k».proof.Proof.Greatest
public import proofs.«01_k».proof.Proof.Math
public import Idealize.ShloMosaic.Lib.Pointwise

@[expose] public section

noncomputable section

namespace Cert.Proof.KernelIdeal

open Cert.KernelIdeal
open Idealize.ShloMosaic Idealize.ShloMosaic.TcCoe Idealize.ShloMosaic.Tactic
open Cert.KernelIdeal.Gen

/-- The least of a table of integers is at most each. -/
theorem least_le {A B : Type} [Fintype A] [Fintype B] (big : ℤ) (f : A → B → ℤ) (i : A) (j : B) :
    Finset.univ.fold min big (fun i => Finset.univ.fold min big (f i)) ≤ f i j :=
  Finset.fold_min_le _ |>.mpr (Or.inr ⟨i, Finset.mem_univ _, Finset.fold_min_le _ |>.mpr (Or.inr ⟨j, Finset.mem_univ _, le_rfl⟩)⟩)

/-- The least of a table of integers is one of them, if it is below the start. -/
theorem least_attained {A B : Type} [Fintype A] [Fintype B] (big : ℤ) (f : A → B → ℤ)
    (h : Finset.univ.fold min big (fun i => Finset.univ.fold min big (f i)) < big) :
    ∃ i j, f i j = Finset.univ.fold min big (fun i => Finset.univ.fold min big (f i)) := by
  rcases (Finset.fold_min_le _).mp (le_refl (Finset.univ.fold min big (fun i => Finset.univ.fold min big (f i)))) with h1 | ⟨i, -, h1⟩
  · exact absurd h (not_lt.mpr h1)
  · rcases (Finset.fold_min_le _).mp h1 with h2 | ⟨j, -, h2⟩
    · exact absurd h (not_lt.mpr h2)
    · exact ⟨i, j, le_antisymm h2 (least_le big f i j)⟩

/-- The greatest of a table is bounded by what bounds its entries. -/
theorem greatest_le {A B : Type} [Fintype A] [Fintype B] (f : A → B → EReal) (c : EReal) :
    Finset.univ.fold max ⊥ (fun i => Finset.univ.fold max ⊥ (f i)) ≤ c ↔ ∀ i j, f i j ≤ c := by
  simp [Finset.fold_max_le]

/-- The greatest of a table is a given entry, if that is at least every entry. -/
theorem greatest_eq {A B : Type} [Fintype A] [Fintype B] (f : A → B → EReal) (i₀ : A) (j₀ : B) (h : ∀ i j, f i j ≤ f i₀ j₀) :
    Finset.univ.fold max ⊥ (fun i => Finset.univ.fold max ⊥ (f i)) = f i₀ j₀ :=
  le_antisymm ((greatest_le f _).mpr h) ((greatest_le f _).mp le_rfl i₀ j₀)

/-- A word that is the least position `128·i + j` at which `q` is greatest (19999 standing in elsewhere) is the first such
    position, if one of those positions is at most 19999. -/
theorem first_of_least (q : Fin 160 × Fin 128 → EReal) (M : EReal) (w : BitVec 32) (hw : w.toNat ≤ 19999)
    (hM : M = Finset.univ.fold max ⊥ (fun i : Fin 160 => Finset.univ.fold max ⊥ fun j : Fin 128 => q (i, j)))
    (he : w.toInt = Finset.univ.fold min (2147483647 : ℤ) (fun i : Fin 160 => Finset.univ.fold min (2147483647 : ℤ)
      (fun j : Fin 128 => if q (i, j) = M then (128 * i.val + j.val : ℤ) else 19999)))
    (m : Fin 160 × Fin 128) (hm : 128 * m.1.val + m.2.val ≤ 19999) (hmax : ∀ p, q p ≤ q m) (r : Fin 160 × Fin 128)
    (hr : 128 * r.1.val + r.2.val = w.toNat) :
    First (fun p : Fin 160 × Fin 128 => 128 * p.1.val + p.2.val) q r ∧ M = q r := by
  have hMm : M = q m := hM.trans (greatest_eq (fun i j => q (i, j)) m.1 m.2 fun i j => hmax (i, j))
  have hwi : w.toInt = w.toNat := by
    rw [BitVec.toInt_eq_toNat_cond]; split_ifs <;> omega
  have hle := fun i j => least_le (2147483647 : ℤ) (fun (i : Fin 160) (j : Fin 128) => if q (i, j) = M then (128 * i.val + j.val : ℤ) else 19999) i j
  rw [← he, hwi] at hle
  have hmle := hle m.1 m.2
  rw [if_pos hMm.symm] at hmle
  have hqr : q r = M := by
    obtain ⟨i, j, hij⟩ := least_attained (2147483647 : ℤ) (fun (i : Fin 160) (j : Fin 128) => if q (i, j) = M then (128 * i.val + j.val : ℤ) else 19999)
      (by rw [← he, hwi]; omega)
    rw [← he, hwi] at hij
    have e : ∀ i : Fin 160, ∀ j : Fin 128, (128 * i.val + j.val : ℤ) = w.toNat → r = (i, j) := by
      intro i j h
      have := i.isLt; have := j.isLt; have := r.1.isLt; have := r.2.isLt
      refine Prod.ext (Fin.ext ?_) (Fin.ext ?_)
      · show r.1.val = i.val; omega
      · show r.2.val = j.val; omega
    by_cases hc : q (i, j) = M
    · rw [if_pos hc] at hij
      rw [e i j hij]; exact hc
    · rw [if_neg hc] at hij
      rw [e m.1 m.2 (by omega)]; exact hMm.symm
  refine ⟨fun p => ?_, hqr.symm⟩
  rcases lt_or_eq_of_le (hqr.symm ▸ hMm ▸ hmax p : q p ≤ q r) with h | h
  · exact Or.inl h
  · refine Or.inr ⟨h, ?_⟩
    have := hle p.1 p.2
    rw [if_pos (h.trans hqr)] at this
    show 128 * r.1.val + r.2.val ≤ 128 * p.1.val + p.2.val
    omega

/-- The selection loop makes a hundred trips. -/
theorem trips1 : k0_t1_loop.trips = 100 := by decide +kernel

/-- The row picked in batch `b` when the shares in play are `p`. -/
def pick (p : FVec Ideal S4x160x128 .f32) (b : Fin 4) : BitVec 32 := k0_pay6 k0_pay27 p (ix3 b 0 0)

/-- The picked row, read signed: the least position where the share is greatest. -/
theorem pick_toInt (p : FVec Ideal S4x160x128 .f32) (b : Fin 4) :
    (pick p b).toInt = Finset.univ.fold min (2147483647 : ℤ) (fun i : Fin 160 => Finset.univ.fold min (2147483647 : ℤ)
      (fun j : Fin 128 => if p (ix3 b i j) = k0_pay5 p (ix3 b 0 0) then (128 * i.val + j.val : ℤ) else 19999)) := by
  have e : pick p b = Finset.fold IntOp.minsi (2147483647#32) (fun i : Fin 160 => Finset.fold IntOp.minsi (2147483647#32)
      (fun j : Fin 128 => Scalar.select (FloatOps.cmpf .oeq (p (ix3 b i j)) (k0_pay5 p (ix3 b 0 0)))
        (IntOp.addi (IntOp.muli (BitVec.ofNat 32 i.val) 128#32) (BitVec.ofNat 32 j.val)) 19999#32) Finset.univ) Finset.univ := by
    unfold pick; pointwise [k0_pay6, k0_pay27]
  rw [e, toInt_least]
  refine Finset.fold_congr fun i _ => Finset.fold_congr fun j _ => ?_
  rw [Ideal.cmpf_def]
  unfold Ideal.cmp
  by_cases h : p (ix3 b i j) = k0_pay5 p (ix3 b 0 0) <;> simp [h]

/-- The greatest share in play. -/
theorem pay5_eq (p : FVec Ideal S4x160x128 .f32) (b : Fin 4) :
    k0_pay5 p (ix3 b 0 0) = Finset.univ.fold max ⊥ (fun i : Fin 160 => Finset.univ.fold max ⊥ fun j : Fin 128 => p (ix3 b i j)) := by
  pointwise [k0_pay5]
  rw [bits_bot]

/-- Equality of words, as a bit that selects. -/
theorem select_eq {α : Type} (a b : BitVec 32) (x y : α) : Scalar.select (IntOp.cmpi .eq a b) x y = if a = b then x else y := by
  unfold Scalar.select IntOp.cmpi
  by_cases h : a = b
  · simp [h]
  · have : (a == b) = false := by simp [h]
    simp [h, this]

/-- The shares in play after one trip: the picked row's share is gone. -/
theorem inPlay_succ (p : FVec Ideal S4x160x128 .f32) (b : Fin 4) (i : Fin 160) (j : Fin 128) :
    k0_pay32 p (k0_pay6 k0_pay27 p) (ix3 b i j) = if 128 * i.val + j.val = (pick p b).toNat then ⊥ else p (ix3 b i j) := by
  have e : k0_pay32 p (k0_pay6 k0_pay27 p) (ix3 b i j)
      = Scalar.select (IntOp.cmpi .eq (IntOp.addi (IntOp.muli (BitVec.ofNat 32 i.val) 128#32) (BitVec.ofNat 32 j.val)) (pick p b)) ⊥ (p (ix3 b i j)) := by
    pointwise [k0_pay32, k0_pay27]
    rw [bits_bot]; rfl
  rw [e, select_eq]
  refine if_congr ?_ rfl rfl
  rw [← BitVec.toInt_inj, toInt_lin]
  have h : (pick p b).toNat ≤ 19999 := pay6_le p b
  rw [BitVec.toInt_eq_toNat_cond]
  constructor
  · intro h'; split_ifs at h' <;> omega
  · intro h'; split_ifs <;> omega

/-- A trip's number, as a word. -/
theorem iv_eq (k : ℕ) : Scf.iv 0#32 1#32 k = BitVec.ofNat 32 k := by
  unfold Scf.iv; simp

/-- Two small numbers are equal when their words are. -/
theorem ofNat_eq_iff (a b : ℕ) (ha : a < 1000) (hb : b < 1000) : BitVec.ofNat 32 a = BitVec.ofNat 32 b ↔ a = b := by
  rw [← BitVec.toNat_inj, BitVec.toNat_ofNat, BitVec.toNat_ofNat]
  omega

/-- The confidences noted after one trip: the greatest share in lane `k`. -/
theorem noted_succ (k : Fin k0_t1_loop.trips) (p : FVec Ideal S4x160x128 .f32) (v : FVec Ideal S4x1x128 .f32) (b : Fin 4) (j : Fin 128) :
    k0_pay7 liota 0#32 1#32 k p v (ix3 b 0 j) = if j.val = k.val then k0_pay5 p (ix3 b 0 0) else v (ix3 b 0 j) := by
  have e : k0_pay7 liota 0#32 1#32 k p v (ix3 b 0 j)
      = Scalar.select (IntOp.cmpi .eq (BitVec.ofNat 32 j.val) (Scf.iv 0#32 1#32 k.val)) (k0_pay5 p (ix3 b 0 0)) (v (ix3 b 0 j)) := by
    pointwise [k0_pay7]
  have hk : k.val < 100 := trips1 ▸ k.isLt
  rw [e, select_eq, iv_eq]
  exact if_congr (ofNat_eq_iff _ _ (by omega) (by omega)) rfl rfl

/-- The shares before the first trip: `-1` past row 20000. -/
theorem start_eq (x1 x2 : Vec Ideal S4x160x128 .f32) (b : Fin 4) (i : Fin 160) (j : Fin 128) :
    k0_pay28 x1 x2 (ix3 b i j) = if 128 * i.val + j.val < 20000 then share (x1 (ix3 b i j)) (x2 (ix3 b i j)) else ((-1 : ℝ) : EReal) := by
  have e : k0_pay28 x1 x2 (ix3 b i j) = Scalar.select (IntOp.cmpi .slt (IntOp.addi (IntOp.muli (BitVec.ofNat 32 i.val) 128#32) (BitVec.ofNat 32 j.val)) 20000#32)
      (share (x1 (ix3 b i j)) (x2 (ix3 b i j))) ((-1 : ℝ) : EReal) := by
    pointwise [k0_pay28, k0_pay27]
    rw [bits_neg_one]; rfl
  rw [e]
  unfold Scalar.select IntOp.cmpi
  have h : (IntOp.addi (IntOp.muli (BitVec.ofNat 32 i.val) 128#32) (BitVec.ofNat 32 j.val)).slt 20000#32 = decide (128 * i.val + j.val < 20000) := by
    rw [Bool.eq_iff_iff, BitVec.slt_iff_toInt_lt, toInt_lin, decide_eq_true_iff]
    have : (20000#32 : BitVec 32).toInt = 20000 := by decide
    rw [this]; omega
  simp only [h]
  by_cases h' : 128 * i.val + j.val < 20000 <;> simp [h']

/-- A noted confidence stays until the end. -/
theorem noted_stays (s₀ : Sel Ideal) (b : Fin 4) (j : Fin 128) (t : ℕ) (ht : j.val < t) (hlt : t ≤ 100) :
    (selAt s₀ t).2 (ix3 b 0 j) = k0_pay5 (selAt s₀ j.val).1 (ix3 b 0 0) := by
  induction t with
  | zero => exact absurd ht (Nat.not_lt_zero _)
  | succ t ih =>
    rw [selAt, dif_pos (by rw [trips1]; omega)]
    show k0_pay7 liota 0#32 1#32 _ _ _ (ix3 b 0 j) = _
    rw [noted_succ]
    by_cases h : j.val = t
    · rw [if_pos h, ← h]
    · rw [if_neg h]; exact ih (by omega) (by omega)

/-- Row `n` of the 20000, as a place of the [160, 128] tile. -/
def place (n : Fin 20000) : Fin 160 × Fin 128 := (⟨n.val / 128, by omega⟩, ⟨n.val % 128, by omega⟩)

/-- The share of row `n` in batch `b`. -/
def shareAt (x1 x2 : Vec Ideal S4x160x128 .f32) (b : Fin 4) (n : Fin 20000) : EReal :=
  share (x1 (ix3 b (place n).1 (place n).2)) (x2 (ix3 b (place n).1 (place n).2))

/-- The selection loop lists the hundred greatest shares and notes them. -/
theorem chosen (x1 x2 : Vec Ideal S4x160x128 .f32) (b : Fin 4) (h0 : ∀ n, 0 ≤ shareAt x1 x2 b n) :
    ∃ σ : Fin 100 → Fin 20000, Picks (shareAt x1 x2 b) σ ∧ ∀ t : Fin 100,
      (pick (selAt (sel0 x1 x2) t.val).1 b).toNat = (σ t).val
      ∧ confs x1 x2 (ix3 b 0 (t.castLE (by omega))) = shareAt x1 x2 b (σ t) := by
  have hlin : ∀ n, 128 * (place n).1.val + (place n).2.val = n.val := fun n => by
    show 128 * (n.val / 128) + n.val % 128 = n.val; omega
  have hw : ∀ p, (pick p b).toNat ≤ 19999 := fun p => pay6_le p b
  let r : ℕ → Fin 160 × Fin 128 := fun t => place ⟨(pick (selAt (sel0 x1 x2) t).1 b).toNat, by have := hw (selAt (sel0 x1 x2) t).1; omega⟩
  have hfirst : ∀ t : ℕ, (∃ m : Fin 20000, ∀ p : Fin 160 × Fin 128, (selAt (sel0 x1 x2) t).1 (ix3 b p.1 p.2) ≤ (selAt (sel0 x1 x2) t).1 (ix3 b (place m).1 (place m).2)) →
      First (fun p : Fin 160 × Fin 128 => 128 * p.1.val + p.2.val) (fun p => (selAt (sel0 x1 x2) t).1 (ix3 b p.1 p.2)) (r t)
      ∧ k0_pay5 (selAt (sel0 x1 x2) t).1 (ix3 b 0 0) = (selAt (sel0 x1 x2) t).1 (ix3 b (r t).1 (r t).2) := by
    rintro t ⟨m, hm⟩
    refine first_of_least (fun p => (selAt (sel0 x1 x2) t).1 (ix3 b p.1 p.2)) _ (pick (selAt (sel0 x1 x2) t).1 b) (hw _) (pay5_eq _ b) (pick_toInt _ b)
      (place m) ?_ hm (r t) (hlin _)
    rw [hlin]; have := m.isLt; omega
  -- the rounds stop at the hundredth: past it the state no longer changes, and nothing is claimed
  let q : ℕ → Fin 160 × Fin 128 → EReal := fun t =>
    Nat.rec (fun p => (sel0 x1 x2).1 (ix3 b p.1 p.2)) (fun t qt p => if p = r t then ⊥ else qt p) t
  have hq : ∀ t ≤ 100, ∀ p, q t p = (selAt (sel0 x1 x2) t).1 (ix3 b p.1 p.2) := by
    intro t
    induction t with
    | zero => intro _ p; rfl
    | succ t ih =>
      intro ht p
      show (if p = r t then ⊥ else q t p) = _
      rw [ih (by omega), selAt, dif_pos (by rw [trips1]; omega)]
      show _ = k0_pay32 (selAt (sel0 x1 x2) t).1 (k0_pay6 k0_pay27 (selAt (sel0 x1 x2) t).1) (ix3 b p.1 p.2)
      rw [inPlay_succ]
      refine if_congr ?_ rfl rfl
      constructor
      · rintro rfl; exact hlin _
      · intro h
        have h1 := hlin ⟨(pick (selAt (sel0 x1 x2) t).1 b).toNat, by have := hw (selAt (sel0 x1 x2) t).1; omega⟩
        have h2 : 128 * p.1.val + p.2.val = 128 * (r t).1.val + (r t).2.val := h.trans h1.symm
        have := p.2.isLt; have := (r t).2.isLt
        exact Prod.ext (Fin.ext (by omega)) (Fin.ext (by omega))
  have hq' : ∀ t ≤ 100, q t = fun p => (selAt (sel0 x1 x2) t).1 (ix3 b p.1 p.2) := fun t ht => funext (hq t ht)
  have hbot : ∀ m, ⊥ < shareAt x1 x2 b m := fun m => lt_of_lt_of_le (by exact bot_lt_iff_ne_bot.mpr (by simp)) (h0 m)
  obtain ⟨σ, hσ, hall⟩ := picks_of_rounds (k := 100) (fun p : Fin 160 × Fin 128 => 128 * p.1.val + p.2.val) q r place (shareAt x1 x2 b) (by omega) hlin
    (by
      intro t ht hm
      rw [hq' t ht.le] at hm ⊢
      exact (hfirst t hm).1)
    (fun t p => rfl)
    (by
      intro m
      show k0_pay28 x1 x2 (ix3 b (place m).1 (place m).2) = _
      rw [start_eq, if_pos (by rw [hlin]; exact m.isLt)]; rfl)
    hbot
    (by
      intro p hp m
      show k0_pay28 x1 x2 (ix3 b p.1 p.2) < _
      rw [start_eq, if_neg]
      · refine lt_of_lt_of_le ?_ (h0 m)
        exact_mod_cast (by norm_num : (-1 : ℝ) < 0)
      · intro h
        refine hp ⟨_, h⟩ ?_
        have := p.2.isLt
        exact Prod.ext (Fin.ext (by show (128 * p.1.val + p.2.val) / 128 = _; omega)) (Fin.ext (by show (128 * p.1.val + p.2.val) % 128 = _; omega)))
  refine ⟨σ, hσ, fun t => ?_⟩
  obtain ⟨h1, h2, h5⟩ := hall t
  have h3 : (pick (selAt (sel0 x1 x2) t.val).1 b).toNat = (σ t).val := by
    have := hlin ⟨(pick (selAt (sel0 x1 x2) t.val).1 b).toNat, by have := hw (selAt (sel0 x1 x2) t.val).1; omega⟩
    have h4 := hlin (σ t)
    rw [← h1] at h4
    exact this.symm.trans h4
  refine ⟨h3, ?_⟩
  show (selAt (sel0 x1 x2) k0_t1_loop.trips).2 (ix3 b 0 _) = _
  rw [trips1, noted_stays _ b _ 100 (by show t.val < 100; exact t.isLt) le_rfl, ← h2, hq t.val t.isLt.le]
  rw [pay5_eq]
  refine greatest_eq (fun i j => (selAt (sel0 x1 x2) t.val).1 (ix3 b i j)) (r t.val).1 (r t.val).2 fun i j => ?_
  have := h5 (i, j)
  rw [hq t.val t.isLt.le, hq t.val t.isLt.le] at this
  exact this

end Cert.Proof.KernelIdeal

end
-- ==== Proof.Rows.lean ====
/- The rows the kernel gathers for the hundred picked boxes, and the row it writes for each kept one, element by element. -/
module

public import proofs.«01_k».proof.Proof.Chosen

@[expose] public section

noncomputable section

namespace Cert.Proof.KernelIdeal

open Cert.KernelIdeal
open Idealize.ShloMosaic Idealize.ShloMosaic.TcCoe Idealize.ShloMosaic.Tactic
open Cert.KernelIdeal.Gen

/-- A window's element is the array's, its place moved by the window's offsets. -/
theorem window_at {α : Type} {n₀ n₁ n₂ m₀ m₁ m₂ : ℕ} (X : (⟨3, ![n₀, n₁, n₂]⟩ : Shape).Idx → α) (off : Fin 3 → ℕ)
    (inb : ∀ a : Fin 3, off a + (![m₀, m₁, m₂] : Fin 3 → ℕ) a ≤ (⟨3, ![n₀, n₁, n₂]⟩ : Shape).size a)
    (i : Fin m₀) (j : Fin m₁) (k : Fin m₂) (i' : Fin n₀) (j' : Fin n₁) (k' : Fin n₂)
    (h0 : i'.val = off 0 + i.val) (h1 : j'.val = off 1 + j.val) (h2 : k'.val = off 2 + k.val) :
    VecWindow.window (s := ⟨3, ![n₀, n₁, n₂]⟩) X off ![m₀, m₁, m₂] inb (ix3 i j k) = X (ix3 i' j' k') := by
  refine congrArg X (funext fun a => Fin.ext ?_)
  fin_cases a
  · show off 0 + 1 * i.val = i'.val; omega
  · show off 1 + 1 * j.val = j'.val; omega
  · show off 2 + 1 * k.val = k'.val; omega

/-- The box row numbered by a word. -/
def rowOf (w : BitVec 32) (h : w.toNat ≤ 19999) : Fin 20000 := ⟨w.toNat, by omega⟩

/-- The payload of the row load of batch 0 is the load. -/
theorem pay9_at (v : Vec Ideal S1x1x40 .f32) (l : Fin 40) : k0_pay9 v (ix3 0 0 l) = v (ix3 0 0 l) := by pointwise [k0_pay9]
/-- The payload of the row load of batch 1 is the load. -/
theorem pay12_at (v : Vec Ideal S1x1x40 .f32) (l : Fin 40) : k0_pay12 v (ix3 0 0 l) = v (ix3 0 0 l) := by pointwise [k0_pay12]
/-- The payload of the row load of batch 2 is the load. -/
theorem pay14_at (v : Vec Ideal S1x1x40 .f32) (l : Fin 40) : k0_pay14 v (ix3 0 0 l) = v (ix3 0 0 l) := by pointwise [k0_pay14]
/-- The payload of the row load of batch 3 is the load. -/
theorem pay31_at (v : Vec Ideal S1x1x40 .f32) (l : Fin 40) : k0_pay31 (k0_pay16 v) (ix3 0 0 l) = v (ix3 0 0 l) := by
  pointwise [k0_pay31, k0_pay16]

/-- A load of one row of forty, the row numbered by a word. -/
theorem row_load (x3 : Vec Ideal S4x20000x40 .f32) (off : Fin 3 → ℕ) (b : Fin 4) (v w : BitVec 32) (hoff : off = ![b.val, v.toNat, 0]) (hv : v = w)
    (inb : ∀ a : Fin 3, off a + (![1, 1, 40] : Fin 3 → ℕ) a ≤ (⟨3, ![4, 20000, 40]⟩ : Shape).size a) (hw : w.toNat ≤ 19999) (l : Fin 40) :
    VecWindow.window (s := ⟨3, ![4, 20000, 40]⟩) x3 off ![1, 1, 40] inb (ix3 0 0 l) = x3 (ix3 b (rowOf w hw) l) := by
  subst hoff hv
  refine window_at x3 _ _ 0 0 l b (rowOf v hw) l ?_ ?_ ?_
  · show b.val = b.val + 0; omega
  · show v.toNat = v.toNat + 0; omega
  · show l.val = 0 + l.val; omega

/-- The row load of batch 0 gives the row picked there. -/
theorem load0 (x3 : Vec Ideal S4x20000x40 .f32) (v w : BitVec 32) (hv : v = w) (inb : ∀ a, k0_off1 v a + S1x1x40.size a ≤ S4x20000x40.size a)
    (hw : w.toNat ≤ 19999) (l : Fin 40) :
    VecWindow.window (s := S4x20000x40) x3 (k0_off1 v) S1x1x40.size inb (ix3 0 0 l) = x3 (ix3 0 (rowOf w hw) l) :=
  row_load x3 _ 0 v w rfl hv inb hw l
/-- The row load of batch 1 gives the row picked there. -/
theorem load1 (x3 : Vec Ideal S4x20000x40 .f32) (v w : BitVec 32) (hv : v = w) (inb : ∀ a, k0_off3 v a + S1x1x40.size a ≤ S4x20000x40.size a)
    (hw : w.toNat ≤ 19999) (l : Fin 40) :
    VecWindow.window (s := S4x20000x40) x3 (k0_off3 v) S1x1x40.size inb (ix3 0 0 l) = x3 (ix3 1 (rowOf w hw) l) :=
  row_load x3 _ 1 v w rfl hv inb hw l
/-- The row load of batch 2 gives the row picked there. -/
theorem load2 (x3 : Vec Ideal S4x20000x40 .f32) (v w : BitVec 32) (hv : v = w) (inb : ∀ a, k0_off5 v a + S1x1x40.size a ≤ S4x20000x40.size a)
    (hw : w.toNat ≤ 19999) (l : Fin 40) :
    VecWindow.window (s := S4x20000x40) x3 (k0_off5 v) S1x1x40.size inb (ix3 0 0 l) = x3 (ix3 2 (rowOf w hw) l) :=
  row_load x3 _ 2 v w rfl hv inb hw l
/-- The row load of batch 3 gives the row picked there. -/
theorem load3 (x3 : Vec Ideal S4x20000x40 .f32) (v w : BitVec 32) (hv : v = w) (inb : ∀ a, k0_off7 v a + S1x1x40.size a ≤ S4x20000x40.size a)
    (hw : w.toNat ≤ 19999) (l : Fin 40) :
    VecWindow.window (s := S4x20000x40) x3 (k0_off7 v) S1x1x40.size inb (ix3 0 0 l) = x3 (ix3 3 (rowOf w hw) l) :=
  row_load x3 _ 3 v w rfl hv inb hw l

/-- One trip of the selection copies the picked row's forty columns to row `k`. -/
theorem rowsStep_at (x3 : Vec Ideal S4x20000x40 .f32) (p : FVec Ideal S4x160x128 .f32) (k : Fin k0_t1_loop.trips) (X : Vec Ideal S4x128x48 .f32)
    (b : Fin 4) (t : Fin 128) (l : Fin 48) (hl : l.val < 40) :
    rowsStep x3 p k X (ix3 b t l) = if t.val = k.val then x3 (ix3 b (rowOf (pick p b) (pay6_le p b)) ⟨l.val, hl⟩) else X (ix3 b t l) := by
  unfold rowsStep
  rw [put_row _ 3 k.val _ (k0_off8_eq k), put_row _ 2 k.val _ (k0_off6_eq k), put_row _ 1 k.val _ (k0_off4_eq k), put_row _ 0 k.val _ (k0_off2_eq k)]
  by_cases ht : t.val = k.val
  · rw [if_pos ht]
    have hb : b = 0 ∨ b = 1 ∨ b = 2 ∨ b = 3 := by fin_cases b <;> simp
    rcases hb with rfl | rfl | rfl | rfl
    · rw [dif_neg (fun h => by have := h.1; simp at this), dif_neg (fun h => by have := h.1; simp at this), dif_neg (fun h => by have := h.1; simp at this),
        dif_pos ⟨rfl, ht, hl⟩, pay9_at]
      rw [load0 x3 _ _ (word8 _ _) _ (pay6_le p 0)]; rfl
    · rw [dif_neg (fun h => by have := h.1; simp at this), dif_neg (fun h => by have := h.1; simp at this), dif_pos ⟨rfl, ht, hl⟩, pay12_at]
      rw [load1 x3 _ _ (word10 _ _) _ (pay6_le p 1)]; rfl
    · rw [dif_neg (fun h => by have := h.1; simp at this), dif_pos ⟨rfl, ht, hl⟩, pay14_at]
      rw [load2 x3 _ _ (word13 _) _ (pay6_le p 2)]; rfl
    · rw [dif_pos ⟨rfl, ht, hl⟩, pay31_at]
      rw [load3 x3 _ _ (word15 _) _ (pay6_le p 3)]; rfl
  · rw [if_neg ht, dif_neg (fun h => ht h.2.1), dif_neg (fun h => ht h.2.1), dif_neg (fun h => ht h.2.1), dif_neg (fun h => ht h.2.1)]

/-- A gathered row stays until the end of the selection. -/
theorem rowsAt_at (x3 : Vec Ideal S4x20000x40 .f32) (s₀ : Sel Ideal) (X : Vec Ideal S4x128x48 .f32)
    (b : Fin 4) (t : Fin 128) (l : Fin 48) (hl : l.val < 40) (n : ℕ) (ht : t.val < n) (hn : n ≤ 100) :
    rowsAt x3 s₀ X n (ix3 b t l) = x3 (ix3 b (rowOf (pick (selAt s₀ t.val).1 b) (pay6_le _ b)) ⟨l.val, hl⟩) := by
  induction n with
  | zero => exact absurd ht (Nat.not_lt_zero _)
  | succ n ih =>
    rw [rowsAt, dif_pos (by rw [trips1]; omega), rowsStep_at _ _ _ _ _ _ _ hl]
    by_cases h : t.val = n
    · rw [if_pos h]; subst h; rfl
    · rw [if_neg h]; exact ih (by omega) (by omega)

/-- The picked boxes' rows, where the picks are `σ`. -/
theorem picked_at (x1 x2 : Vec Ideal S4x160x128 .f32) (x3 : Vec Ideal S4x20000x40 .f32) (b : Fin 4) (σ : Fin 100 → Fin 20000)
    (hσ : ∀ t : Fin 100, (pick (selAt (sel0 x1 x2) t.val).1 b).toNat = (σ t).val) (t : Fin 100) (l : Fin 48) (hl : l.val < 40) :
    picked x1 x2 x3 (ix3 b (t.castLE (by omega)) l) = x3 (ix3 b (σ t) ⟨l.val, hl⟩) := by
  unfold picked
  rw [trips1, rowsAt_at _ _ _ _ _ _ hl 100 (by exact t.isLt) le_rfl]
  exact congrArg (fun r => x3 (ix3 b r ⟨l.val, hl⟩)) (Fin.ext (hσ t))

end Cert.Proof.KernelIdeal

end
-- ==== Proof.Columns.lean ====
/- What the thirteen column loops leave: each box's largest overlap with the boxes before it. -/
module

public import proofs.«01_k».proof.Proof.Rows

@[expose] public section

noncomputable section

namespace Cert.Proof.KernelIdeal

open Cert.KernelIdeal
open Idealize.ShloMosaic Idealize.ShloMosaic.TcCoe Idealize.ShloMosaic.Tactic
open Cert.KernelIdeal.Gen

/-- The greatest of the first `n` entries of which those not below `j` count as zero: the same for every `n` past `j`. -/
theorem greatest_cut {n : ℕ} (D : Fin 128 → EReal) (j : ℕ) (hj : j < n) (hn : n ≤ 128) :
    Finset.univ.fold max ⊥ (fun i : Fin n => if i.val < j then D (i.castLE hn) else 0)
      = Finset.univ.fold max ⊥ (fun i : Fin 128 => if i.val < j then D i else 0) := by
  apply le_antisymm
  · rw [Finset.fold_max_le]
    refine ⟨bot_le, fun i _ => ?_⟩
    exact (Finset.le_fold_max _).mpr (Or.inr ⟨i.castLE hn, Finset.mem_univ _, le_rfl⟩)
  · rw [Finset.fold_max_le]
    refine ⟨bot_le, fun i _ => ?_⟩
    by_cases h : i.val < j
    · exact (Finset.le_fold_max _).mpr (Or.inr ⟨⟨i.val, by omega⟩, Finset.mem_univ _, le_rfl⟩)
    · refine (Finset.le_fold_max _).mpr (Or.inr ⟨⟨j, hj⟩, Finset.mem_univ _, ?_⟩)
      rw [if_neg h, if_neg (lt_irrefl j)]

/-- Signed comparison of two small numbers' words. -/
theorem select_slt {α : Type} (a b : ℕ) (ha : a < 1000) (hb : b < 1000) (x y : α) :
    Scalar.select (IntOp.cmpi .slt (BitVec.ofNat 32 a) (BitVec.ofNat 32 b)) x y = if a < b then x else y := by
  unfold Scalar.select IntOp.cmpi
  have h : (BitVec.ofNat 32 a).slt (BitVec.ofNat 32 b) = decide (a < b) := by
    rw [Bool.eq_iff_iff, BitVec.slt_iff_toInt_lt, decide_eq_true_iff, BitVec.toInt_ofNat', BitVec.toInt_ofNat',
      Int.bmod_eq_of_le (by push_cast; omega) (by push_cast; omega), Int.bmod_eq_of_le (by push_cast; omega) (by push_cast; omega)]
    omega
  simp only [h]
  by_cases h' : a < b <;> simp [h']

/-- A trip's column, as a word. -/
theorem col_word (start k : ℕ) : Scalar.addi (BitVec.ofNat 32 start) (Scf.iv 0#32 1#32 k) = BitVec.ofNat 32 (start + k) := by
  rw [iv_eq]
  show BitVec.ofNat 32 start + BitVec.ofNat 32 k = _
  rw [BitVec.ofNat_add]

/-- What one trip of a column loop leaves in one lane, in words. -/
def colTrip {n : ℕ} (start k j : ℕ) (D : Fin n → EReal) (a : EReal) : EReal :=
  Scalar.select (IntOp.cmpi .eq (BitVec.ofNat 32 j) (Scalar.addi (BitVec.ofNat 32 start) (Scf.iv 0#32 1#32 k)))
    (Finset.fold max (Ideal.ofBits FTy.f32 4286578688#32) (fun i : Fin n => Finset.fold max (Ideal.ofBits FTy.f32 4286578688#32)
      (fun _ : Fin 1 => Scalar.select (IntOp.cmpi .slt (BitVec.ofNat 32 i.val) (Scalar.addi (BitVec.ofNat 32 start) (Scf.iv 0#32 1#32 k))) (D i) 0) Finset.univ) Finset.univ) a

/-- The same, read: in the trip's own lane the greatest entry before it. -/
theorem colTrip_eq {n : ℕ} (start k j : ℕ) (D : Fin n → EReal) (a : EReal) (hj : j < 1000) (hn : n < 1000) (hk : start + k < 1000) :
    colTrip start k j D a = if j = start + k then Finset.univ.fold max ⊥ (fun i : Fin n => if i.val < start + k then D i else 0) else a := by
  unfold colTrip
  rw [col_word, select_eq, bits_bot]
  refine if_congr (ofNat_eq_iff _ _ hj hk) ?_ rfl
  refine Finset.fold_congr fun i _ => ?_
  have : (Finset.univ : Finset (Fin 1)) = {0} := rfl
  rw [this, Finset.fold_singleton, select_slt _ _ (by have := i.isLt; omega) hk]
  exact max_eq_left bot_le

/-- The overlap of boxes `i` and `j` of batch `b`, as the kernel computes it from the Gaussians and their sums. -/
def ratio (s : Shapes Ideal) (b : Fin 4) (i j : Fin 128) : EReal :=
  Ideal.div (∑ x : Fin 1024, min (s.gauss (ix3 b i x)) (s.gauss (ix3 b j x)))
    (s.sums (ix3 b i 0) + ∑ x : Fin 1024, s.gauss (ix3 b j x) - ∑ x : Fin 1024, min (s.gauss (ix3 b i x)) (s.gauss (ix3 b j x)) + Ideal.ofBits FTy.f32 897988541#32)

/-- The largest overlap of box `j` with a box before it, zero if there is none. -/
def largest (s : Shapes Ideal) (b : Fin 4) (j : Fin 128) : EReal :=
  Finset.univ.fold max ⊥ (fun i : Fin 128 => if i.val < j.val then ratio s b i j else 0)

/-- A column loop whose trips have the usual form leaves the largest overlaps in its lanes and nothing new elsewhere. -/
theorem cols_at {n T : ℕ} (s : Shapes Ideal) (start T' : ℕ) (hT : T = T') (hT' : start + T' ≤ n) (hn : n ≤ 128)
    (pay : ((⟨3, ![4, n, 1024]⟩ : Shape).Idx → EReal) → Fin T → FVec Ideal S4x1x128 .f32 → FVec Ideal S4x1x1024 .f32 → FVec Ideal S4x1x128 .f32)
    (hpay : ∀ g k acc c b (j : Fin 128), pay g k acc c (ix3 b 0 j) = colTrip start k.val j.val
      (fun i : Fin n => Ideal.div (∑ x : Fin 1024, min (g (ix3 b i x)) (c (ix3 b 0 x)))
        (s.sums (ix3 b (i.castLE hn) 0) + ∑ x : Fin 1024, c (ix3 b 0 x) - ∑ x : Fin 1024, min (g (ix3 b i x)) (c (ix3 b 0 x)) + Ideal.ofBits FTy.f32 897988541#32))
      (acc (ix3 b 0 j)))
    (off : Fin T → Fin 3 → ℕ) (hoff : ∀ k, off k = ![0, k.val + start, 0])
    (inb0 : ∀ a : Fin 3, (![0, 0, 0] : Fin 3 → ℕ) a + (![4, n, 1024] : Fin 3 → ℕ) a ≤ (⟨3, ![4, 128, 1024]⟩ : Shape).size a)
    (inb : ∀ k, ∀ a : Fin 3, off k a + (![4, 1, 1024] : Fin 3 → ℕ) a ≤ (⟨3, ![4, 128, 1024]⟩ : Shape).size a)
    (init : FVec Ideal S4x1x128 .f32) (b : Fin 4) (j : Fin 128) :
    iter T (fun k acc => pay (VecWindow.window (s := ⟨3, ![4, 128, 1024]⟩) s.gauss ![0, 0, 0] ![4, n, 1024] inb0) k acc
        (VecWindow.window (s := ⟨3, ![4, 128, 1024]⟩) s.gauss (off k) ![4, 1, 1024] (inb k))) init T (ix3 b 0 j)
      = if start ≤ j.val ∧ j.val < start + T' then largest s b j else init (ix3 b 0 j) := by
  subst hT
  have step : ∀ (k : Fin T) (acc : FVec Ideal S4x1x128 .f32), pay (VecWindow.window (s := ⟨3, ![4, 128, 1024]⟩) s.gauss ![0, 0, 0] ![4, n, 1024] inb0) k acc
        (VecWindow.window (s := ⟨3, ![4, 128, 1024]⟩) s.gauss (off k) ![4, 1, 1024] (inb k)) (ix3 b 0 j)
      = if j.val = start + k.val then largest s b j else acc (ix3 b 0 j) := by
    intro k acc
    have hk := k.isLt; have hj := j.isLt
    rw [hpay, colTrip_eq _ _ _ _ _ (by omega) (by omega) (by omega)]
    by_cases h : j.val = start + k.val
    · rw [if_pos h, if_pos h, ← h]
      unfold largest
      rw [← greatest_cut (fun i => ratio s b i j) j.val (by omega) hn]
      refine Finset.fold_congr fun i _ => ?_
      refine if_congr Iff.rfl ?_ rfl
      have e1 : ∀ x : Fin 1024, VecWindow.window (s := ⟨3, ![4, 128, 1024]⟩) s.gauss ![0, 0, 0] ![4, n, 1024] inb0 (ix3 b i x) = s.gauss (ix3 b (i.castLE hn) x) :=
        fun x => window_at s.gauss _ _ _ _ _ _ _ _ (Nat.zero_add _).symm (Nat.zero_add _).symm (Nat.zero_add _).symm
      have e2 : ∀ x : Fin 1024, VecWindow.window (s := ⟨3, ![4, 128, 1024]⟩) s.gauss (off k) ![4, 1, 1024] (inb k) (ix3 b 0 x) = s.gauss (ix3 b j x) := by
        intro x
        have ho := hoff k
        refine window_at s.gauss _ _ _ _ _ _ _ _ ?_ ?_ ?_
        · rw [ho]; exact (Nat.zero_add _).symm
        · rw [ho]; show j.val = k.val + start + 0; omega
        · rw [ho]; exact (Nat.zero_add _).symm
      simp only [e1, e2]
      rfl
    · rw [if_neg h, if_neg h]
  have all : ∀ m ≤ T, iter T (fun k acc => pay (VecWindow.window (s := ⟨3, ![4, 128, 1024]⟩) s.gauss ![0, 0, 0] ![4, n, 1024] inb0) k acc
        (VecWindow.window (s := ⟨3, ![4, 128, 1024]⟩) s.gauss (off k) ![4, 1, 1024] (inb k))) init m (ix3 b 0 j)
      = if start ≤ j.val ∧ j.val < start + m then largest s b j else init (ix3 b 0 j) := by
    intro m
    induction m with
    | zero => intro _; rw [if_neg (by omega)]; rfl
    | succ m ih =>
      intro hm
      rw [iter, dif_pos (by omega), step, ih (by omega)]
      show (if j.val = start + m then _ else _) = _
      by_cases h : j.val = start + m
      · rw [if_pos h, if_pos (by omega)]
      · rw [if_neg h]
        refine if_congr ?_ rfl rfl
        omega
  exact all T le_rfl

/-- Loop 2 puts the largest overlaps in lanes 0 to 7 and keeps the others. -/
theorem cols2_at (s : Shapes Ideal) (init : FVec Ideal S4x1x128 .f32) (b : Fin 4) (j : Fin 128) :
    cols2 s init (ix3 b 0 j) = if 0 ≤ j.val ∧ j.val < 0 + 8 then largest s b j else init (ix3 b 0 j) :=
  cols_at s 0 8 (by decide +kernel) (by omega) (by omega) (fun g k acc c => k0_pay44 liota s.gx s.gy s.h s.cx s.cy s.rx half g k acc c)
    (by intros; pointwise [k0_pay44]; rfl) k0_off9 k0_off9_eq _ _ init b j
/-- Loop 3 puts the largest overlaps in lanes 8 to 15 and keeps the others. -/
theorem cols3_at (s : Shapes Ideal) (init : FVec Ideal S4x1x128 .f32) (b : Fin 4) (j : Fin 128) :
    cols3 s init (ix3 b 0 j) = if 8 ≤ j.val ∧ j.val < 8 + 8 then largest s b j else init (ix3 b 0 j) :=
  cols_at s 8 8 (by decide +kernel) (by omega) (by omega) (k0_pay45 liota s.sums) (by intros; pointwise [k0_pay45]; rfl) k0_off10 k0_off10_eq _ _ init b j
/-- Loop 4 puts the largest overlaps in lanes 16 to 23 and keeps the others. -/
theorem cols4_at (s : Shapes Ideal) (init : FVec Ideal S4x1x128 .f32) (b : Fin 4) (j : Fin 128) :
    cols4 s init (ix3 b 0 j) = if 16 ≤ j.val ∧ j.val < 16 + 8 then largest s b j else init (ix3 b 0 j) :=
  cols_at s 16 8 (by decide +kernel) (by omega) (by omega) (k0_pay46 liota s.sums) (by intros; pointwise [k0_pay46]; rfl) k0_off11 k0_off11_eq _ _ init b j
/-- Loop 5 puts the largest overlaps in lanes 24 to 31 and keeps the others. -/
theorem cols5_at (s : Shapes Ideal) (init : FVec Ideal S4x1x128 .f32) (b : Fin 4) (j : Fin 128) :
    cols5 s init (ix3 b 0 j) = if 24 ≤ j.val ∧ j.val < 24 + 8 then largest s b j else init (ix3 b 0 j) :=
  cols_at s 24 8 (by decide +kernel) (by omega) (by omega) (k0_pay47 liota s.sums) (by intros; pointwise [k0_pay47]; rfl) k0_off12 k0_off12_eq _ _ init b j
/-- Loop 6 puts the largest overlaps in lanes 32 to 39 and keeps the others. -/
theorem cols6_at (s : Shapes Ideal) (init : FVec Ideal S4x1x128 .f32) (b : Fin 4) (j : Fin 128) :
    cols6 s init (ix3 b 0 j) = if 32 ≤ j.val ∧ j.val < 32 + 8 then largest s b j else init (ix3 b 0 j) :=
  cols_at s 32 8 (by decide +kernel) (by omega) (by omega) (k0_pay48 liota s.sums) (by intros; pointwise [k0_pay48]; rfl) k0_off13 k0_off13_eq _ _ init b j
/-- Loop 7 puts the largest overlaps in lanes 40 to 47 and keeps the others. -/
theorem cols7_at (s : Shapes Ideal) (init : FVec Ideal S4x1x128 .f32) (b : Fin 4) (j : Fin 128) :
    cols7 s init (ix3 b 0 j) = if 40 ≤ j.val ∧ j.val < 40 + 8 then largest s b j else init (ix3 b 0 j) :=
  cols_at s 40 8 (by decide +kernel) (by omega) (by omega) (k0_pay49 liota s.sums) (by intros; pointwise [k0_pay49]; rfl) k0_off14 k0_off14_eq _ _ init b j
/-- Loop 8 puts the largest overlaps in lanes 48 to 55 and keeps the others. -/
theorem cols8_at (s : Shapes Ideal) (init : FVec Ideal S4x1x128 .f32) (b : Fin 4) (j : Fin 128) :
    cols8 s init (ix3 b 0 j) = if 48 ≤ j.val ∧ j.val < 48 + 8 then largest s b j else init (ix3 b 0 j) :=
  cols_at s 48 8 (by decide +kernel) (by omega) (by omega) (k0_pay50 liota s.sums) (by intros; pointwise [k0_pay50]; rfl) k0_off15 k0_off15_eq _ _ init b j
/-- Loop 9 puts the largest overlaps in lanes 56 to 63 and keeps the others. -/
theorem cols9_at (s : Shapes Ideal) (init : FVec Ideal S4x1x128 .f32) (b : Fin 4) (j : Fin 128) :
    cols9 s init (ix3 b 0 j) = if 56 ≤ j.val ∧ j.val < 56 + 8 then largest s b j else init (ix3 b 0 j) :=
  cols_at s 56 8 (by decide +kernel) (by omega) (by omega) (k0_pay51 liota s.sums) (by intros; pointwise [k0_pay51]; rfl) k0_off16 k0_off16_eq _ _ init b j
/-- Loop 10 puts the largest overlaps in lanes 64 to 71 and keeps the others. -/
theorem cols10_at (s : Shapes Ideal) (init : FVec Ideal S4x1x128 .f32) (b : Fin 4) (j : Fin 128) :
    cols10 s init (ix3 b 0 j) = if 64 ≤ j.val ∧ j.val < 64 + 8 then largest s b j else init (ix3 b 0 j) :=
  cols_at s 64 8 (by decide +kernel) (by omega) (by omega) (k0_pay52 liota s.sums) (by intros; pointwise [k0_pay52]; rfl) k0_off17 k0_off17_eq _ _ init b j
/-- Loop 11 puts the largest overlaps in lanes 72 to 79 and keeps the others. -/
theorem cols11_at (s : Shapes Ideal) (init : FVec Ideal S4x1x128 .f32) (b : Fin 4) (j : Fin 128) :
    cols11 s init (ix3 b 0 j) = if 72 ≤ j.val ∧ j.val < 72 + 8 then largest s b j else init (ix3 b 0 j) :=
  cols_at s 72 8 (by decide +kernel) (by omega) (by omega) (k0_pay53 liota s.sums) (by intros; pointwise [k0_pay53]; rfl) k0_off18 k0_off18_eq _ _ init b j
/-- Loop 12 puts the largest overlaps in lanes 80 to 87 and keeps the others. -/
theorem cols12_at (s : Shapes Ideal) (init : FVec Ideal S4x1x128 .f32) (b : Fin 4) (j : Fin 128) :
    cols12 s init (ix3 b 0 j) = if 80 ≤ j.val ∧ j.val < 80 + 8 then largest s b j else init (ix3 b 0 j) :=
  cols_at s 80 8 (by decide +kernel) (by omega) (by omega) (k0_pay54 liota s.sums) (by intros; pointwise [k0_pay54]; rfl) k0_off19 k0_off19_eq _ _ init b j
/-- Loop 13 puts the largest overlaps in lanes 88 to 95 and keeps the others. -/
theorem cols13_at (s : Shapes Ideal) (init : FVec Ideal S4x1x128 .f32) (b : Fin 4) (j : Fin 128) :
    cols13 s init (ix3 b 0 j) = if 88 ≤ j.val ∧ j.val < 88 + 8 then largest s b j else init (ix3 b 0 j) :=
  cols_at s 88 8 (by decide +kernel) (by omega) (by omega) (k0_pay1 liota s.sums) (by intros; pointwise [k0_pay1]; rfl) k0_off20 k0_off20_eq _ _ init b j
/-- Loop 14 puts the largest overlaps in lanes 96 to 99 and keeps the others. -/
theorem cols14_at (s : Shapes Ideal) (init : FVec Ideal S4x1x128 .f32) (b : Fin 4) (j : Fin 128) :
    cols14 s init (ix3 b 0 j) = if 96 ≤ j.val ∧ j.val < 96 + 4 then largest s b j else init (ix3 b 0 j) :=
  cols_at s 96 4 (by decide +kernel) (by omega) (by omega) (k0_pay2 liota s.sums) (by intros; pointwise [k0_pay2]; rfl) k0_off21 k0_off21_eq _ _ init b j

/-- Before the loops: zero in the first hundred lanes, `+∞` past them. -/
theorem pay43_at (b : Fin 4) (j : Fin 128) : k0_pay43 (F := Ideal) liota (ix3 b 0 j) = if j.val < 100 then 0 else ⊤ := by
  have e : k0_pay43 (F := Ideal) liota (ix3 b 0 j) = Scalar.select (IntOp.cmpi .slt (BitVec.ofNat 32 j.val) (BitVec.ofNat 32 100)) 0 ⊤ := by
    pointwise [k0_pay43]
    rw [bits_top]
  have := j.isLt
  rw [e, select_slt _ _ (by omega) (by omega)]

/-- The lanes done before a loop and the loop's own are the lanes done after it. -/
theorem lanes_grow (j a m c : ℕ) (h : a + m = c) (x y : EReal) :
    (if a ≤ j ∧ j < a + m then x else if j < a then x else y) = if j < c then x else y := by
  subst h
  split_ifs <;> first | rfl | (exfalso; omega)

/-- The overlaps: the largest one in each of the first hundred lanes, `+∞` past them. -/
theorem overlaps_at (s : Shapes Ideal) (b : Fin 4) (j : Fin 128) : overlaps s (ix3 b 0 j) = if j.val < 100 then largest s b j else ⊤ := by
  unfold overlaps
  rw [cols14_at, cols13_at, cols12_at, cols11_at, cols10_at, cols9_at, cols8_at, cols7_at, cols6_at, cols5_at, cols4_at, cols3_at, cols2_at, pay43_at,
    if_congr (show 0 ≤ j.val ∧ j.val < 0 + 8 ↔ j.val < 8 by omega) rfl rfl, lanes_grow _ 8 8 16 rfl, lanes_grow _ 16 8 24 rfl, lanes_grow _ 24 8 32 rfl,
    lanes_grow _ 32 8 40 rfl, lanes_grow _ 40 8 48 rfl, lanes_grow _ 48 8 56 rfl, lanes_grow _ 56 8 64 rfl, lanes_grow _ 64 8 72 rfl,
    lanes_grow _ 72 8 80 rfl, lanes_grow _ 80 8 88 rfl, lanes_grow _ 88 8 96 rfl, lanes_grow _ 96 4 100 rfl]
  by_cases h : j.val < 100
  · rw [if_pos h, if_pos h]
  · rw [if_neg h, if_neg h, if_neg h]

end Cert.Proof.KernelIdeal

end
-- ==== Proof.Gaussians.lean ====
/- The kernel's Gaussians, element by element. -/
module

public import proofs.«01_k».proof.Proof.Columns

@[expose] public section

noncomputable section

namespace Cert.Proof

open Idealize.ShloMosaic

/-- The Gaussian of a box from its four offsets and its four prior numbers, at the point (x, y). -/
def boxBump (l0 l1 l2 l3 p0 p1 p2 p3 x y : EReal) : EReal :=
  bump (p0 + l0 * Ideal.ofBits .f32 1036831949#32 * p2) (p1 + l1 * Ideal.ofBits .f32 1036831949#32 * p3)
    (p2 * Ideal.exp (l2 * Ideal.ofBits .f32 1045220557#32)) (p3 * Ideal.exp (l3 * Ideal.ofBits .f32 1045220557#32)) x y

/-- The `k`-th of 32 evenly spaced points from 0 to 1. -/
def gridPt (k : ℕ) : EReal := (((k : ℝ) * 31⁻¹ : ℝ) : EReal)

/-- The Gaussian of a box from its forty columns, at a place of the 32 × 32 grid. -/
def boxGauss (f : Fin 40 → EReal) (l : Fin 1024) : EReal :=
  boxBump (f 0) (f 1) (f 2) (f 3) (f 36) (f 37) (f 38) (f 39) (gridPt (l.val % 32)) (gridPt (l.val / 32))

end Cert.Proof

namespace Cert.Proof.KernelIdeal

open Cert.KernelIdeal
open Idealize.ShloMosaic Idealize.ShloMosaic.TcCoe Idealize.ShloMosaic.Tactic
open Cert.KernelIdeal.Gen

/-- A small number's word read as a float. -/
theorem sitofp_small (k : ℕ) (hk : k < 1000) : (FloatOps.sitofp .f32 (BitVec.ofNat 32 k) : Ideal .f32) = ((k : ℝ) : EReal) := by
  show (((BitVec.ofNat 32 k).toInt : ℝ) : EReal) = _
  rw [BitVec.toInt_ofNat', Int.bmod_eq_of_le (by push_cast; omega) (by push_cast; omega)]
  simp

/-- The named constant, at the ideal instance. -/
theorem inv_named : (Named.named κ "inv31" 1023680776#32 : Ideal .f32) = ((31⁻¹ : ℝ) : EReal) := rfl

/-- The grid's first coordinate at place `l`. -/
theorem gx_at (l : Fin 1024) : (k0_pay34 (Scalar.select (Scalar.cmpi .eq 32#32 0#32) 1#32 32#32) k0_pay33 0#32 (ix3 0 0 l) : Ideal .f32) = gridPt (l.val % 32) := by
  pointwise [k0_pay34, k0_pay33]
  have h : ∀ l : Fin 1024, Scalar.select
      (IntOp.andi (IntOp.xori (IntOp.cmpi .slt (IntOp.remsi .vector (BitVec.ofNat 32 l.val) (Scalar.select (Scalar.cmpi .eq 32#32 0#32) 1#32 32#32)) 0#32)
          (Scalar.cmpi .slt (Scalar.select (Scalar.cmpi .eq 32#32 0#32) 1#32 32#32) 0#32))
        (IntOp.cmpi .ne (IntOp.remsi .vector (BitVec.ofNat 32 l.val) (Scalar.select (Scalar.cmpi .eq 32#32 0#32) 1#32 32#32)) 0#32))
      (IntOp.addi (IntOp.remsi .vector (BitVec.ofNat 32 l.val) (Scalar.select (Scalar.cmpi .eq 32#32 0#32) 1#32 32#32)) (Scalar.select (Scalar.cmpi .eq 32#32 0#32) 1#32 32#32))
      (IntOp.remsi .vector (BitVec.ofNat 32 l.val) (Scalar.select (Scalar.cmpi .eq 32#32 0#32) 1#32 32#32)) = BitVec.ofNat 32 (l.val % 32) := by
    decide +kernel
  rw [h l, sitofp_small _ (by omega), inv_named]
  exact (EReal.coe_mul _ _).symm

/-- The grid's second coordinate at place `l`. -/
theorem gy_at (l : Fin 1024) : (k0_pay35 (ix3 0 0 l) : Ideal .f32) = gridPt (l.val / 32) := by
  pointwise [k0_pay35]
  have h : ∀ l : Fin 1024, Scalar.select
      (IntOp.andi (IntOp.cmpi .ne (IntOp.subi (BitVec.setWidth 32 (IntOp.cmpi .sgt (BitVec.ofNat 32 l.val) 0#32)) (BitVec.setWidth 32 (IntOp.cmpi .slt (BitVec.ofNat 32 l.val) 0#32)))
          (Scalar.subi (Scalar.extui (Scalar.cmpi .sgt 32#32 0#32)) (Scalar.extui (Scalar.cmpi .slt 32#32 0#32))))
        (IntOp.cmpi .ne (IntOp.remsi .vector (BitVec.ofNat 32 l.val) 32#32) 0#32))
      (IntOp.subi (IntOp.divsi .vector (BitVec.ofNat 32 l.val) 32#32) 1#32)
      (IntOp.divsi .vector (BitVec.ofNat 32 l.val) 32#32) = BitVec.ofNat 32 (l.val / 32) := by
    decide +kernel
  rw [h l, sitofp_small _ (by omega), inv_named]
  exact (EReal.coe_mul _ _).symm

/-- Column `l` of the rows, element by element. -/
theorem colOf_at (R : Vec Ideal S4x128x48 .f32) (l : ℕ) (h) (hl : l < 48) (b : Fin 4) (n : Fin 128) : colOf R l h (ix3 b n 0) = R (ix3 b n ⟨l, hl⟩) := by
  unfold colOf
  exact window_at R _ _ _ _ _ _ _ _ (Nat.zero_add _).symm (Nat.zero_add _).symm rfl

/-- The Gaussian from the columns it is computed from. -/
theorem gauss_eq (s : Shapes Ideal) (b : Fin 4) (n : Fin 128) (l : Fin 1024) : s.gauss (ix3 b n l)
    = Ideal.exp (0 - ((s.gx (ix3 0 0 l) - s.cx (ix3 b n 0)) * (s.gx (ix3 0 0 l) - s.cx (ix3 b n 0)) * s.rx (ix3 b n 0)
      + (s.gy (ix3 0 0 l) - s.cy (ix3 b n 0)) * (s.gy (ix3 0 0 l) - s.cy (ix3 b n 0)) * Ideal.div 1 (denom (s.h (ix3 b n 0))))) := by
  unfold Shapes.gauss denom
  pointwise [k0_pay41, k0_pay40]

/-- A height. -/
theorem height (x y : Vec Ideal S4x128x1 .f32) (b : Fin 4) (n : Fin 128) :
    k0_pay36 x y (ix3 b n 0) = y (ix3 b n 0) * Ideal.exp (x (ix3 b n 0) * Ideal.ofBits .f32 1045220557#32) := by
  pointwise [k0_pay36]

/-- A centre's first coordinate. -/
theorem centreX (x y z : Vec Ideal S4x128x1 .f32) (b : Fin 4) (n : Fin 128) :
    k0_pay37 x y z (ix3 b n 0) = y (ix3 b n 0) + x (ix3 b n 0) * Ideal.ofBits .f32 1036831949#32 * z (ix3 b n 0) := by
  pointwise [k0_pay37]

/-- A centre's second coordinate. -/
theorem centreY (x y z : Vec Ideal S4x128x1 .f32) (b : Fin 4) (n : Fin 128) :
    k0_pay38 x y z (ix3 b n 0) = y (ix3 b n 0) + x (ix3 b n 0) * Ideal.ofBits .f32 1036831949#32 * z (ix3 b n 0) := by
  pointwise [k0_pay38]

/-- The reciprocal that belongs to a width. -/
theorem recipX (x y : Vec Ideal S4x128x1 .f32) (b : Fin 4) (n : Fin 128) :
    k0_pay39 x y (ix3 b n 0) = Ideal.div 1 (denom (y (ix3 b n 0) * Ideal.exp (x (ix3 b n 0) * Ideal.ofBits .f32 1045220557#32))) := by
  unfold denom
  pointwise [k0_pay39]

/-- The Gaussians at a box and a place. -/
theorem gauss_at (R : Vec Ideal S4x128x48 .f32) (b : Fin 4) (n : Fin 128) (l : Fin 1024) :
    (shapesOf R).gauss (ix3 b n l) = boxBump (R (ix3 b n 0)) (R (ix3 b n 1)) (R (ix3 b n 2)) (R (ix3 b n 3))
      (R (ix3 b n 36)) (R (ix3 b n 37)) (R (ix3 b n 38)) (R (ix3 b n 39)) (gridPt (l.val % 32)) (gridPt (l.val / 32)) := by
  rw [gauss_eq]
  unfold shapesOf
  dsimp only
  rw [gx_at, gy_at, centreX, centreY, recipX, height, colOf_at R 0 _ (by omega), colOf_at R 1 _ (by omega), colOf_at R 2 _ (by omega),
    colOf_at R 3 _ (by omega), colOf_at R 36 _ (by omega), colOf_at R 37 _ (by omega), colOf_at R 38 _ (by omega), colOf_at R 39 _ (by omega)]
  rfl

/-- The sums of the Gaussians are the sums over the places. -/
theorem sums_at (s : Shapes Ideal) (b : Fin 4) (n : Fin 128) : s.sums (ix3 b n 0) = ∑ l : Fin 1024, s.gauss (ix3 b n l) := by
  unfold Shapes.sums Shapes.gauss
  pointwise [k0_pay42, k0_pay41, k0_pay40]

end Cert.Proof.KernelIdeal

end
-- ==== Proof.Overlap.lean ====
/- The overlap of two families of numbers between zero and one, and the largest overlap with an earlier one. -/
module

public import proofs.«01_k».proof.Proof.Gaussians

@[expose] public section

noncomputable section

namespace Cert.Proof

open Idealize.ShloMosaic

/-- Every entry is a real number between zero and one. -/
def Unit01 {n : ℕ} (u : Fin n → EReal) : Prop := ∀ l, ∃ r : ℝ, 0 ≤ r ∧ r ≤ 1 ∧ u l = r

/-- The overlap of two families: the sum of the smaller entries by the sum of the larger ones. -/
def overlap {n : ℕ} (u v : Fin n → EReal) : EReal :=
  Ideal.div (∑ l, min (u l) (v l)) (∑ l, max (u l) (v l) + Ideal.ofBits .f32 897988541#32)

/-- The overlap does not depend on the order. -/
theorem overlap_comm {n : ℕ} (u v : Fin n → EReal) : overlap u v = overlap v u := by
  unfold overlap
  simp only [min_comm, max_comm]

/-- The sum of real numbers, taken among the extended reals. -/
theorem coe_sum' {n : ℕ} (f : Fin n → ℝ) : ∑ l, ((f l : ℝ) : EReal) = ((∑ l, f l : ℝ) : EReal) := by
  induction n with
  | zero => simp
  | succ n ih => rw [Fin.sum_univ_succ, Fin.sum_univ_succ, ih, EReal.coe_add]

/-- Two sums less the sum of the smaller entries are the sum of the larger ones. -/
theorem union_eq {n : ℕ} (u v : Fin n → EReal) (hu : Unit01 u) (hv : Unit01 v) :
    ∑ l, u l + ∑ l, v l - ∑ l, min (u l) (v l) = ∑ l, max (u l) (v l) := by
  choose a _ _ ea using hu
  choose b _ _ eb using hv
  have h1 : ∀ l, min (u l) (v l) = ((min (a l) (b l) : ℝ) : EReal) := fun l => by rw [ea, eb]; exact (EReal.coe_strictMono.monotone.map_min).symm
  have h2 : ∀ l, max (u l) (v l) = ((max (a l) (b l) : ℝ) : EReal) := fun l => by rw [ea, eb]; exact (EReal.coe_strictMono.monotone.map_max).symm
  simp only [h1, h2]
  simp only [ea, eb, coe_sum']
  rw [← EReal.coe_add, ← EReal.coe_sub, ← Finset.sum_add_distrib, ← Finset.sum_sub_distrib]
  congr 1
  refine Finset.sum_congr rfl fun l _ => ?_
  have := min_add_max (a l) (b l)
  linarith

/-- The overlap is a real number, not negative. -/
theorem overlap_mem {n : ℕ} (u v : Fin n → EReal) (hu : Unit01 u) (hv : Unit01 v) : ∃ r : ℝ, 0 ≤ r ∧ overlap u v = r := by
  choose a a0 _ ea using hu
  choose b b0 _ eb using hv
  obtain ⟨ε, h0, hε⟩ := bits_eps
  have h1 : ∀ l, min (u l) (v l) = ((min (a l) (b l) : ℝ) : EReal) := fun l => by rw [ea, eb]; exact (EReal.coe_strictMono.monotone.map_min).symm
  have h2 : ∀ l, max (u l) (v l) = ((max (a l) (b l) : ℝ) : EReal) := fun l => by rw [ea, eb]; exact (EReal.coe_strictMono.monotone.map_max).symm
  have hS : 0 ≤ ∑ l, max (a l) (b l) := Finset.sum_nonneg fun l _ => le_max_of_le_left (a0 l)
  have hI : 0 ≤ ∑ l, min (a l) (b l) := Finset.sum_nonneg fun l _ => le_min (a0 l) (b0 l)
  have hp : 0 < ∑ l, max (a l) (b l) + ε := by linarith
  refine ⟨(∑ l, min (a l) (b l)) * (∑ l, max (a l) (b l) + ε)⁻¹, mul_nonneg hI (inv_nonneg.mpr hp.le), ?_⟩
  unfold overlap
  simp only [h1, h2, coe_sum', hε]
  rw [← EReal.coe_add]
  unfold Ideal.div
  rw [if_neg (by exact_mod_cast hp.ne'), ← EReal.coe_inv, ← EReal.coe_mul]

/-- The largest overlap of the `j`-th of 100 families with an earlier one, zero if there is none. -/
def worst {n : ℕ} (U : Fin 100 → Fin n → EReal) (j : Fin 100) : EReal :=
  Finset.univ.fold max ⊥ (fun i : Fin 100 => if i.val < j.val then overlap (U i) (U j) else 0)

/-- It is a real number. -/
theorem worst_lt {n : ℕ} (U : Fin 100 → Fin n → EReal) (hU : ∀ i, Unit01 (U i)) (j : Fin 100) : worst U j < ⊤ := by
  rw [worst, Finset.fold_max_lt]
  refine ⟨bot_lt_top, fun i _ => ?_⟩
  split_ifs
  · obtain ⟨r, -, h⟩ := overlap_mem _ _ (hU i) (hU j)
    rw [h]; exact EReal.coe_lt_top r
  · exact EReal.zero_lt_top

end Cert.Proof

namespace Cert.Proof.KernelIdeal

open Cert.KernelIdeal
open Idealize.ShloMosaic Idealize.ShloMosaic.TcCoe Idealize.ShloMosaic.Tactic
open Cert.KernelIdeal.Gen

/-- The kernel's overlap, its union taken as a difference, is the overlap. -/
theorem ratio_eq (s : Shapes Ideal) (b : Fin 4) (i j : Fin 128) (hi : Unit01 fun l => s.gauss (ix3 b i l)) (hj : Unit01 fun l => s.gauss (ix3 b j l)) :
    ratio s b i j = overlap (fun l => s.gauss (ix3 b i l)) (fun l => s.gauss (ix3 b j l)) := by
  unfold ratio overlap
  rw [sums_at, union_eq _ _ hi hj]

/-- The Gaussians the kernel computes lie between zero and one. -/
theorem gauss_unit (R : Vec Ideal S4x128x48 .f32) (b : Fin 4) (n : Fin 128) : Unit01 fun l => (shapesOf R).gauss (ix3 b n l) := by
  intro l
  show ∃ r : ℝ, 0 ≤ r ∧ r ≤ 1 ∧ (shapesOf R).gauss (ix3 b n l) = r
  rw [gauss_at]
  exact bump_mem _ _ _ _ _ _

/-- The kernel's largest overlap among the first 100 boxes. -/
theorem largest_eq (R : Vec Ideal S4x128x48 .f32) (b : Fin 4) (j : Fin 100) :
    largest (shapesOf R) b (j.castLE (by omega)) = worst (fun (i : Fin 100) l => (shapesOf R).gauss (ix3 b (i.castLE (by omega)) l)) j := by
  unfold largest worst
  refine (greatest_cut (n := 100) (fun i => ratio (shapesOf R) b i (j.castLE (by omega))) _ j.isLt (by omega)).symm.trans ?_
  refine Finset.fold_congr fun i _ => ?_
  refine if_congr Iff.rfl ?_ rfl
  exact ratio_eq _ _ _ _ (gauss_unit R b _) (gauss_unit R b _)

end Cert.Proof.KernelIdeal

end
-- ==== Proof.Kept.lean ====
/- What the writing loop picks: of the first hundred boxes the fifty with the smallest largest overlaps. -/
module

public import proofs.«01_k».proof.Proof.Overlap

@[expose] public section

noncomputable section

namespace Cert.Proof.KernelIdeal

open Cert.KernelIdeal
open Idealize.ShloMosaic Idealize.ShloMosaic.TcCoe Idealize.ShloMosaic.Tactic
open Cert.KernelIdeal.Gen

/-- A word that is the least lane at which `x` is least (127 standing in elsewhere) is the first such lane. -/
theorem first_lane (x : Fin 128 → EReal) (M : EReal) (w : BitVec 32) (hw : w.toNat ≤ 127)
    (hM : M = Finset.univ.fold min ⊤ (fun _ : Fin 1 => Finset.univ.fold min ⊤ x))
    (he : w.toInt = Finset.univ.fold min (2147483647 : ℤ) (fun _ : Fin 1 => Finset.univ.fold min (2147483647 : ℤ)
      (fun j : Fin 128 => if x j = M then (j.val : ℤ) else 127)))
    (m : Fin 128) (hmax : ∀ p, - x p ≤ - x m) (r : Fin 128) (hr : r.val = w.toNat) :
    First (fun p : Fin 128 => p.val) (fun p => - x p) r := by
  have hle' : ∀ p, x m ≤ x p := fun p => EReal.neg_le_neg_iff.mp (hmax p)
  have hMm : M = x m := by
    rw [hM]
    apply le_antisymm
    · exact (Finset.fold_min_le _).mpr (Or.inr ⟨0, Finset.mem_univ _, (Finset.fold_min_le _).mpr (Or.inr ⟨m, Finset.mem_univ _, le_rfl⟩)⟩)
    · rw [Finset.le_fold_min]
      refine ⟨le_top, fun _ _ => ?_⟩
      rw [Finset.le_fold_min]
      exact ⟨le_top, fun p _ => hle' p⟩
  have hwi : w.toInt = w.toNat := by
    rw [BitVec.toInt_eq_toNat_cond]; split_ifs <;> omega
  have hle := fun j => least_le (2147483647 : ℤ) (fun (_ : Fin 1) (j : Fin 128) => if x j = M then (j.val : ℤ) else 127) 0 j
  rw [← he, hwi] at hle
  have hmle := hle m
  rw [if_pos hMm.symm] at hmle
  have hqr : x r = M := by
    obtain ⟨_, j, hj⟩ := least_attained (2147483647 : ℤ) (fun (_ : Fin 1) (j : Fin 128) => if x j = M then (j.val : ℤ) else 127)
      (by rw [← he, hwi]; omega)
    rw [← he, hwi] at hj
    by_cases hc : x j = M
    · rw [if_pos hc] at hj
      have : r = j := Fin.ext (by omega)
      rw [this]; exact hc
    · rw [if_neg hc] at hj
      have : r = m := Fin.ext (by have := m.isLt; omega)
      rw [this]; exact hMm.symm
  intro p
  have h1 := hle' p
  rw [← hMm, ← hqr] at h1
  rcases lt_or_eq_of_le h1 with h | h
  · exact Or.inl (EReal.neg_lt_neg_iff.mpr h)
  · refine Or.inr ⟨by show - x p = - x r; rw [h], ?_⟩
    have := hle p
    rw [if_pos (h.symm.trans hqr)] at this
    show r.val ≤ p.val
    omega

/-- The lane picked in batch `b` when the overlaps in play are `x`. -/
def lane (x : FVec Ideal S4x1x128 .f32) (b : Fin 4) : BitVec 32 := k0_pay17 liota x (ix3 b 0 0)

/-- The picked lane, read signed. -/
theorem lane_toInt (x : FVec Ideal S4x1x128 .f32) (b : Fin 4) :
    (lane x b).toInt = Finset.univ.fold min (2147483647 : ℤ) (fun _ : Fin 1 => Finset.univ.fold min (2147483647 : ℤ)
      (fun j : Fin 128 => if x (ix3 b 0 j) = Finset.univ.fold min ⊤ (fun _ : Fin 1 => Finset.univ.fold min ⊤ fun j : Fin 128 => x (ix3 b 0 j)) then (j.val : ℤ) else 127)) := by
  have e : lane x b = Finset.fold IntOp.minsi (2147483647#32) (fun _ : Fin 1 => Finset.fold IntOp.minsi (2147483647#32)
      (fun j : Fin 128 => Scalar.select (FloatOps.cmpf .oeq (x (ix3 b 0 j)) (Finset.univ.fold min ⊤ (fun _ : Fin 1 => Finset.univ.fold min ⊤ fun j : Fin 128 => x (ix3 b 0 j))))
        (BitVec.ofNat 32 j.val) 127#32) Finset.univ) Finset.univ := by
    rw [← bits_top]
    unfold lane liota; pointwise [k0_pay17]
  rw [e, toInt_leastLane]
  refine Finset.fold_congr fun _ _ => Finset.fold_congr fun j _ => ?_
  rw [Ideal.cmpf_def]
  unfold Ideal.cmp
  generalize Finset.univ.fold min ⊤ (fun _ : Fin 1 => Finset.univ.fold min ⊤ fun j : Fin 128 => x (ix3 b 0 j)) = M
  by_cases h : x (ix3 b 0 j) = M <;> simp [h]

/-- The overlaps in play after one trip: the picked lane is out. -/
theorem lanes_succ (x : FVec Ideal S4x1x128 .f32) (b : Fin 4) (j : Fin 128) :
    k0_pay4 liota x (k0_pay17 liota x) (ix3 b 0 j) = if j.val = (lane x b).toNat then ⊤ else x (ix3 b 0 j) := by
  have e : k0_pay4 liota x (k0_pay17 liota x) (ix3 b 0 j)
      = Scalar.select (IntOp.cmpi .eq (BitVec.ofNat 32 j.val) (lane x b)) ⊤ (x (ix3 b 0 j)) := by
    unfold lane
    pointwise [k0_pay4]
    rw [bits_top]
  rw [e, select_eq]
  refine if_congr ?_ rfl rfl
  have h : (lane x b).toNat ≤ 127 := pay17_le x b
  rw [← BitVec.toNat_inj, BitVec.toNat_ofNat]
  have := j.isLt
  omega

/-- The writing loop takes the fifty boxes with the smallest largest overlaps, in order. -/
theorem kept (s : Shapes Ideal) (b : Fin 4) (W : Fin 100 → EReal) (hW : ∀ j : Fin 100, largest s b (j.castLE (by omega)) = W j) (hlt : ∀ j, W j < ⊤) :
    ∃ τ : Fin 50 → Fin 100, Picks (fun j => - W j) τ ∧ ∀ t : Fin 50, (lane (imAt (overlaps s) t.val) b).toNat = (τ t).val := by
  have hw : ∀ x, (lane x b).toNat ≤ 127 := fun x => pay17_le x b
  let r : ℕ → Fin 128 := fun t => ⟨(lane (imAt (overlaps s) t) b).toNat, by have := hw (imAt (overlaps s) t); omega⟩
  let q : ℕ → Fin 128 → EReal := fun t p => - imAt (overlaps s) t (ix3 b 0 p)
  have h0 : ∀ j : Fin 100, overlaps s (ix3 b 0 (j.castLE (by omega))) = W j := by
    intro j
    rw [overlaps_at]
    exact (if_pos j.isLt).trans (hW j)
  obtain ⟨τ, hτ, hall⟩ := picks_of_rounds (k := 50) (fun p : Fin 128 => p.val) q r (fun m : Fin 100 => m.castLE (by omega)) (fun j => - W j) (by omega)
    (fun _ => rfl)
    (by
      rintro t _ ⟨m, hm⟩
      exact first_lane (fun p => imAt (overlaps s) t (ix3 b 0 p)) _ (lane (imAt (overlaps s) t) b) (hw _) rfl (lane_toInt _ b) _ hm (r t) rfl)
    (by
      intro t p
      show - k0_pay4 liota (imAt (overlaps s) t) (k0_pay17 liota (imAt (overlaps s) t)) (ix3 b 0 p) = _
      rw [lanes_succ]
      by_cases h : p = r t
      · rw [if_pos h, if_pos (by rw [h])]; exact EReal.neg_top
      · rw [if_neg h, if_neg (fun h' => h (Fin.ext h'))])
    (by intro m; show - overlaps s _ = _; rw [h0])
    (by
      intro m
      exact EReal.neg_top ▸ EReal.neg_lt_neg_iff.mpr (hlt m))
    (by
      intro p hp m
      have hp' : ¬ p.val < 100 := fun h => hp ⟨p.val, h⟩ rfl
      show - overlaps s (ix3 b 0 p) < - W m
      rw [overlaps_at, if_neg hp']
      exact EReal.neg_lt_neg_iff.mpr (hlt m))
  refine ⟨τ, hτ, fun t => ?_⟩
  exact congrArg Fin.val (hall t).1

end Cert.Proof.KernelIdeal

end
-- ==== Proof.Written.lean ====
/- The rows the writing loop leaves: each kept box's forty columns, its confidence between the thirty-sixth and the rest. -/
module

public import proofs.«01_k».proof.Proof.Kept

@[expose] public section

noncomputable section

namespace Cert.Proof.KernelIdeal

open Cert.KernelIdeal
open Idealize.ShloMosaic Idealize.ShloMosaic.TcCoe Idealize.ShloMosaic.Tactic
open Cert.KernelIdeal.Gen

/-- The confidences, all but the one of batch `c` at its lane set to zero. -/
def masked (c : BitVec 32) (w : IVec S4x1x1 32) (cv : FVec Ideal S4x1x128 .f32) : FVec Ideal S4x1x128 .f32 :=
  select (andi (cmpi .eq (broadcastTo S4x1x128 liota broadcasts_S1x1x128_S4x1x128) (broadcastTo S4x1x128 w broadcasts_S4x1x1_S4x1x128))
    (broadcastTo S4x1x128 (cmpi .eq biota (broadcast S4x1x1 c)) broadcasts_S4x1x1_S4x1x128)) cv (broadcast S4x1x128 (Scalar.ofBits .f32 0x00000000#32))

/-- Their sum. -/
def oneConf (c : BitVec 32) (w : IVec S4x1x1 32) (cv : FVec Ideal S4x1x128 .f32) : EReal :=
  Ideal.reduceAdd reduces_S1x4x1x128_S1 (shapeCast S1x4x1x128 (masked c w cv) shapeCasts_S4x1x128_S1x4x1x128) (ix1 0)

/-- The masked confidences, element by element. -/
theorem masked_at (c : Fin 4) (w : IVec S4x1x1 32) (cv : FVec Ideal S4x1x128 .f32) (b : Fin 4) (j : Fin 128) :
    masked (BitVec.ofNat 32 c.val) w cv (ix3 b 0 j) = if b = c ∧ BitVec.ofNat 32 j.val = w (ix3 b 0 0) then cv (ix3 b 0 j) else 0 := by
  have e : masked (BitVec.ofNat 32 c.val) w cv (ix3 b 0 j) = Scalar.select (IntOp.andi (IntOp.cmpi .eq (BitVec.ofNat 32 j.val) (w (ix3 b 0 0)))
      (IntOp.cmpi .eq (BitVec.ofNat 32 b.val) (BitVec.ofNat 32 c.val))) (cv (ix3 b 0 j)) 0 := by
    unfold masked liota biota
    pointwise []
  rw [e]
  have hb : (BitVec.ofNat 32 b.val = BitVec.ofNat 32 c.val) ↔ b = c := by
    rw [ofNat_eq_iff _ _ (by omega) (by omega)]; exact Fin.ext_iff.symm
  unfold Scalar.select IntOp.andi IntOp.cmpi
  have e1 : (BitVec.ofNat 32 j.val == w (ix3 b 0 0)) = decide (BitVec.ofNat 32 j.val = w (ix3 b 0 0)) := by
    rw [Bool.eq_iff_iff, beq_iff_eq, decide_eq_true_iff]
  have e2 : (BitVec.ofNat 32 b.val == BitVec.ofNat 32 c.val) = decide (b = c) := by
    rw [Bool.eq_iff_iff, beq_iff_eq, decide_eq_true_iff, hb]
  simp only [e1, e2]
  by_cases h2 : b = c
  · subst h2
    by_cases h1 : BitVec.ofNat 32 j.val = w (ix3 b 0 0) <;> simp [h1]
  · by_cases h1 : BitVec.ofNat 32 j.val = w (ix3 b 0 0) <;> simp [h1, h2]

/-- The sum is the confidence of batch `c` at its lane. -/
theorem oneConf_eq (c : Fin 4) (w : IVec S4x1x1 32) (cv : FVec Ideal S4x1x128 .f32) (n : Fin 128) (hn : (w (ix3 c 0 0)).toNat = n.val) :
    oneConf (BitVec.ofNat 32 c.val) w cv = cv (ix3 c 0 n) := by
  unfold oneConf
  rw [Ideal.reduceAdd_total _ (by intro b; fin_cases b; rfl)]
  have e : ∀ (a : Fin 1) (b : Fin 4) (d : Fin 1) (j : Fin 128), shapeCast S1x4x1x128 (masked (BitVec.ofNat 32 c.val) w cv) shapeCasts_S4x1x128_S1x4x1x128 (ix4 a b d j)
      = masked (BitVec.ofNat 32 c.val) w cv (ix3 b 0 j) := by
    intro a b d j
    have : a = 0 := by omega
    have : d = 0 := by omega
    subst a d
    pointwise []
  have hi : ∀ i : S1x4x1x128.Idx, ∃ (b : Fin 4) (j : Fin 128), i = ix4 0 b 0 j := by
    intro i
    refine ⟨i 1, i 3, funext fun a => ?_⟩
    have h0 : (i 0).val < 1 := (i 0).isLt
    have h2 : (i 2).val < 1 := (i 2).isLt
    fin_cases a
    · exact Fin.ext (by show (i 0).val = 0; omega)
    · rfl
    · exact Fin.ext (by show (i 2).val = 0; omega)
    · rfl
  rw [Finset.sum_eq_single (ix4 0 c 0 n)]
  · rw [e, masked_at, if_pos]
    refine ⟨rfl, ?_⟩
    rw [← hn, BitVec.ofNat_toNat]; simp
  · intro i _ hne
    obtain ⟨b, j, rfl⟩ := hi i
    rw [e, masked_at, if_neg]
    rintro ⟨rfl, h2⟩
    refine hne (congrArg (ix4 0 b 0) (Fin.ext ?_))
    have := congrArg BitVec.toNat h2
    rw [hn, BitVec.toNat_ofNat] at this
    omega
  · intro h; exact absurd (Finset.mem_univ _) h

/-- A row of the result: thirty-six columns, the confidence, and the last four columns. -/
def outRow (f : Fin 40 → EReal) (e : EReal) (l : Fin 41) : EReal :=
  if h : l.val < 36 then f ⟨l.val, by omega⟩ else if l.val = 36 then e else f ⟨l.val - 1, by omega⟩

/-- A row put together from a loaded row and the confidence. -/
def joined (R : Vec Ideal S1x1x48 .f32) (e : EReal) (l : Fin 41) : EReal := outRow (fun i => R (ix3 0 0 (i.castLE (by omega)))) e l

/-- The same, by the three pieces the row is put together from. -/
theorem joined_eq (R : Vec Ideal S1x1x48 .f32) (e : EReal) (l : Fin 41) :
    joined R e l = if h : l.val < 36 then R (ix3 0 0 ⟨l.val, by omega⟩) else if h' : l.val - 36 < 1 then e else R (ix3 0 0 ⟨36 + (l.val - 36 - 1), by omega⟩) := by
  unfold joined outRow
  split_ifs with h1 h2 h3 h3
  · rfl
  · rfl
  · omega
  · omega
  · refine congrArg R (congrArg (ix3 0 0) (Fin.ext ?_))
    show l.val - 1 = 36 + (l.val - 36 - 1)
    omega

/-- The payload of the writing in batch 0 puts its row together. -/
theorem pay20_at (cv im : FVec Ideal S4x1x128 .f32) (R : Vec Ideal S1x1x48 .f32) (l : Fin 41) :
    k0_pay20 (k0_pay19 biota liota cv im R) (ix3 0 0 l) = joined R (oneConf 0#32 (k0_pay17 liota im) cv) l := by
  rw [joined_eq]
  unfold oneConf masked
  pointwise [k0_pay20, k0_pay19]
/-- The payload of the writing in batch 1 puts its row together. -/
theorem pay22_at (cv : FVec Ideal S4x1x128 .f32) (w : IVec S4x1x1 32) (R : Vec Ideal S1x1x48 .f32) (l : Fin 41) :
    k0_pay22 biota liota cv w R (ix3 0 0 l) = joined R (oneConf 1#32 w cv) l := by
  rw [joined_eq]
  unfold oneConf masked
  pointwise [k0_pay22]
/-- The payload of the writing in batch 2 puts its row together. -/
theorem pay24_at (cv : FVec Ideal S4x1x128 .f32) (w : IVec S4x1x1 32) (R : Vec Ideal S1x1x48 .f32) (l : Fin 41) :
    k0_pay24 biota liota cv w R (ix3 0 0 l) = joined R (oneConf 2#32 w cv) l := by
  rw [joined_eq]
  unfold oneConf masked
  pointwise [k0_pay24]
/-- The payload of the writing in batch 3 puts its row together. -/
theorem pay3_at (cv : FVec Ideal S4x1x128 .f32) (w : IVec S4x1x1 32) (R : Vec Ideal S1x1x48 .f32) (l : Fin 41) :
    k0_pay3 (k0_pay26 biota liota cv w) R (ix3 0 0 l) = joined R (oneConf 3#32 w cv) l := by
  rw [joined_eq]
  unfold oneConf masked
  pointwise [k0_pay3, k0_pay26]

/-- A loaded row of the picked boxes, put together with its confidence, is the box's row. -/
theorem joined_row (R : Vec Ideal S4x128x48 .f32) (off : Fin 3 → ℕ) (b : Fin 4) (n : Fin 128) (hoff : off = ![b.val, n.val, 0])
    (inb : ∀ a : Fin 3, off a + (![1, 1, 48] : Fin 3 → ℕ) a ≤ (⟨3, ![4, 128, 48]⟩ : Shape).size a) (e : EReal) (l : Fin 41) :
    joined (VecWindow.window (s := ⟨3, ![4, 128, 48]⟩) R off ![1, 1, 48] inb) e l = outRow (fun i => R (ix3 b n (i.castLE (by omega)))) e l := by
  subst hoff
  unfold joined
  refine congrArg (fun f => outRow f e l) (funext fun i => ?_)
  exact window_at R _ _ _ _ _ _ _ _ (Nat.add_zero _).symm (Nat.add_zero _).symm (Nat.zero_add _).symm

/-- The row load of the writing in batch 0, put together, is the row of the lane picked. -/
theorem lane0 (R : Vec Ideal S4x128x48 .f32) (v w : BitVec 32) (hv : v = w) (inb : ∀ a, k0_off22 v a + S1x1x48.size a ≤ S4x128x48.size a)
    (n : Fin 128) (hn : w.toNat = n.val) (e : EReal) (l : Fin 41) :
    joined (VecWindow.window (s := S4x128x48) R (k0_off22 v) S1x1x48.size inb) e l = outRow (fun i => R (ix3 0 n (i.castLE (by omega)))) e l :=
  joined_row R _ 0 n (by rw [hv, ← hn]; rfl) inb e l
/-- The confidence summed out in batch 0 is that of the lane picked. -/
theorem conf0 (im cv : FVec Ideal S4x1x128 .f32) (n : Fin 128) (hn : (lane im 0).toNat = n.val) : oneConf 0#32 (k0_pay17 liota im) cv = cv (ix3 0 0 n) :=
  oneConf_eq 0 _ cv n hn
/-- The row load of the writing in batch 1, put together, is the row of the lane picked. -/
theorem lane1 (R : Vec Ideal S4x128x48 .f32) (v w : BitVec 32) (hv : v = w) (inb : ∀ a, k0_off24 v a + S1x1x48.size a ≤ S4x128x48.size a)
    (n : Fin 128) (hn : w.toNat = n.val) (e : EReal) (l : Fin 41) :
    joined (VecWindow.window (s := S4x128x48) R (k0_off24 v) S1x1x48.size inb) e l = outRow (fun i => R (ix3 1 n (i.castLE (by omega)))) e l :=
  joined_row R _ 1 n (by rw [hv, ← hn]; rfl) inb e l
/-- The confidence summed out in batch 1 is that of the lane picked. -/
theorem conf1 (im cv : FVec Ideal S4x1x128 .f32) (n : Fin 128) (hn : (lane im 1).toNat = n.val) : oneConf 1#32 (k0_pay17 liota im) cv = cv (ix3 1 0 n) :=
  oneConf_eq 1 _ cv n hn
/-- The row load of the writing in batch 2, put together, is the row of the lane picked. -/
theorem lane2 (R : Vec Ideal S4x128x48 .f32) (v w : BitVec 32) (hv : v = w) (inb : ∀ a, k0_off26 v a + S1x1x48.size a ≤ S4x128x48.size a)
    (n : Fin 128) (hn : w.toNat = n.val) (e : EReal) (l : Fin 41) :
    joined (VecWindow.window (s := S4x128x48) R (k0_off26 v) S1x1x48.size inb) e l = outRow (fun i => R (ix3 2 n (i.castLE (by omega)))) e l :=
  joined_row R _ 2 n (by rw [hv, ← hn]; rfl) inb e l
/-- The confidence summed out in batch 2 is that of the lane picked. -/
theorem conf2 (im cv : FVec Ideal S4x1x128 .f32) (n : Fin 128) (hn : (lane im 2).toNat = n.val) : oneConf 2#32 (k0_pay17 liota im) cv = cv (ix3 2 0 n) :=
  oneConf_eq 2 _ cv n hn
/-- The row load of the writing in batch 3, put together, is the row of the lane picked. -/
theorem lane3 (R : Vec Ideal S4x128x48 .f32) (v w : BitVec 32) (hv : v = w) (inb : ∀ a, k0_off28 v a + S1x1x48.size a ≤ S4x128x48.size a)
    (n : Fin 128) (hn : w.toNat = n.val) (e : EReal) (l : Fin 41) :
    joined (VecWindow.window (s := S4x128x48) R (k0_off28 v) S1x1x48.size inb) e l = outRow (fun i => R (ix3 3 n (i.castLE (by omega)))) e l :=
  joined_row R _ 3 n (by rw [hv, ← hn]; rfl) inb e l
/-- The confidence summed out in batch 3 is that of the lane picked. -/
theorem conf3 (im cv : FVec Ideal S4x1x128 .f32) (n : Fin 128) (hn : (lane im 3).toNat = n.val) : oneConf 3#32 (k0_pay17 liota im) cv = cv (ix3 3 0 n) :=
  oneConf_eq 3 _ cv n hn

/-- The row a trip of the writing leaves in batch `b`: that of the lane picked there. -/
theorem outStep_at (R : Vec Ideal S4x128x48 .f32) (cv im : FVec Ideal S4x1x128 .f32) (k : Fin k0_t15_loop.trips) (X : Vec Ideal S4x50x41 .f32)
    (b : Fin 4) (t : Fin 50) (l : Fin 41) (h : t.val = k.val) (n : Fin 128) (hn : (lane im b).toNat = n.val) :
    outStep R cv im k X (ix3 b t l) = outRow (fun i => R (ix3 b n (i.castLE (by omega)))) (cv (ix3 b 0 n)) l := by
  unfold outStep
  rw [put_row _ 3 k.val _ (k0_off29_eq k), put_row _ 2 k.val _ (k0_off27_eq k), put_row _ 1 k.val _ (k0_off25_eq k), put_row _ 0 k.val _ (k0_off23_eq k)]
  have hl : l.val < 41 := l.isLt
  have hb : b = 0 ∨ b = 1 ∨ b = 2 ∨ b = 3 := by fin_cases b <;> simp
  rcases hb with rfl | rfl | rfl | rfl
  · rw [dif_neg (fun h => by have := h.1; simp at this), dif_neg (fun h => by have := h.1; simp at this), dif_neg (fun h => by have := h.1; simp at this),
      dif_pos ⟨rfl, h, hl⟩, pay20_at, lane0 R _ _ (word18 _ _) _ n hn]
    rw [conf0 im cv n hn]
  · rw [dif_neg (fun h => by have := h.1; simp at this), dif_neg (fun h => by have := h.1; simp at this), dif_pos ⟨rfl, h, hl⟩, pay22_at,
      lane1 R _ _ (word21 _) _ n hn]
    rw [conf1 im cv n hn]
  · rw [dif_neg (fun h => by have := h.1; simp at this), dif_pos ⟨rfl, h, hl⟩, pay24_at,
      lane2 R _ _ (word23 _) _ n hn]
    rw [conf2 im cv n hn]
  · rw [dif_pos ⟨rfl, h, hl⟩, pay3_at, lane3 R _ _ (word25 _) _ n hn]
    rw [conf3 im cv n hn]

/-- The rows the whole writing leaves. -/
theorem outAt_at (R : Vec Ideal S4x128x48 .f32) (cv im₀ : FVec Ideal S4x1x128 .f32) (X : Vec Ideal S4x50x41 .f32) (b : Fin 4) (t : Fin 50) (l : Fin 41)
    (n : Fin 128) (hn : (lane (imAt im₀ t.val) b).toNat = n.val) (k : ℕ) (ht : t.val < k) (hk : k ≤ 50) :
    outAt R cv im₀ X k (ix3 b t l) = outRow (fun i => R (ix3 b n (i.castLE (by omega)))) (cv (ix3 b 0 n)) l := by
  induction k with
  | zero => exact absurd ht (Nat.not_lt_zero _)
  | succ k ih =>
    rw [outAt, dif_pos (by rw [trips15]; omega)]
    by_cases h : t.val = k
    · exact outStep_at R cv _ _ _ b t l h n (by rw [← h]; exact hn)
    · rw [outStep_other R cv _ ⟨k, by rw [trips15]; omega⟩ _ b t l h]
      exact ih (by omega) (by omega)

/-- The kernel's whole result for one batch: there are picks of the hundred greatest shares, and of the fifty smallest largest
    overlaps among them, such that the result's rows are the kept boxes'. -/
theorem kernelOut_at (x1 x2 : Vec Ideal S4x160x128 .f32) (x3 : Vec Ideal S4x20000x40 .f32) (b : Fin 4) (h0 : ∀ n, 0 ≤ shareAt x1 x2 b n) :
    ∃ (σ : Fin 100 → Fin 20000) (τ : Fin 50 → Fin 100), Picks (shareAt x1 x2 b) σ
      ∧ Picks (fun j => - worst (fun i l => boxGauss (fun c => x3 (ix3 b (σ i) c)) l) j) τ
      ∧ ∀ t l, kernelOut x1 x2 x3 (ix3 b t l) = outRow (fun c => x3 (ix3 b (σ (τ t)) c)) (shareAt x1 x2 b (σ (τ t))) l := by
  obtain ⟨σ, hσ, hrow⟩ := chosen x1 x2 b h0
  have hR := picked_at x1 x2 x3 b σ fun t => (hrow t).1
  have hg : ∀ (i : Fin 100) l, (shapesOf (picked x1 x2 x3)).gauss (ix3 b (i.castLE (by omega)) l) = boxGauss (fun c => x3 (ix3 b (σ i) c)) l := by
    intro i l
    rw [gauss_at]
    unfold boxGauss
    rw [hR i 0 (by decide), hR i 1 (by decide), hR i 2 (by decide), hR i 3 (by decide), hR i 36 (by decide), hR i 37 (by decide), hR i 38 (by decide), hR i 39 (by decide)]
    rfl
  have hW : ∀ j : Fin 100, largest (shapesOf (picked x1 x2 x3)) b (j.castLE (by omega)) = worst (fun i l => boxGauss (fun c => x3 (ix3 b (σ i) c)) l) j := by
    intro j
    rw [largest_eq]
    refine congrArg (fun U => worst U j) (funext fun i => funext fun l => hg i l)
  obtain ⟨τ, hτ, hlane⟩ := kept (shapesOf (picked x1 x2 x3)) b _ hW fun j => worst_lt _ (fun i l => bump_mem _ _ _ _ _ _) j
  refine ⟨σ, τ, hσ, hτ, fun t l => ?_⟩
  unfold kernelOut
  rw [trips15, outAt_at _ _ _ _ b t l ((τ t).castLE (by omega)) (hlane t) 50 t.isLt le_rfl, (hrow (τ t)).2]
  refine congrArg (fun f => outRow f _ l) (funext fun c => ?_)
  exact hR (τ t) (c.castLE (by omega)) c.isLt

end Cert.Proof.KernelIdeal

end
-- ==== Proof.RefPicks.lean ====
/- What the reference computes up to its Gaussians: the shares, the hundred greatest, and their rows. -/
module

public import proofs.«01_k».proof.Proof.Gen.ReferenceIdeal.Run
public import proofs.«01_k».proof.Proof.Lookups
public import proofs.«01_k».proof.Proof.Written

@[expose] public section

noncomputable section

namespace Cert.Proof

open Idealize.ShloMosaic

/-- A box's forty columns: four offsets, thirty-two mask numbers, four prior numbers. -/
def rowAt (L : (⟨3, ![4, 20000, 4]⟩ : Shape).Idx → EReal) (M : (⟨3, ![4, 20000, 32]⟩ : Shape).Idx → EReal) (P : (⟨2, ![20000, 4]⟩ : Shape).Idx → EReal)
    (b : Fin 4) (n : Fin 20000) (c : Fin 40) : EReal :=
  if h : c.val < 4 then L (ix3 b n ⟨c.val, h⟩) else if h' : c.val - 4 < 32 then M (ix3 b n ⟨c.val - 4, h'⟩) else P (ix2 n ⟨c.val - 4 - 32, by omega⟩)

section
variable (L : (⟨3, ![4, 20000, 4]⟩ : Shape).Idx → EReal) (M : (⟨3, ![4, 20000, 32]⟩ : Shape).Idx → EReal) (P : (⟨2, ![20000, 4]⟩ : Shape).Idx → EReal)
  (b : Fin 4) (n : Fin 20000) (c : Fin 40)
/-- Columns 0 to 3. -/
theorem rowAt_loc (h : c.val < 4) : rowAt L M P b n c = L (ix3 b n ⟨c.val, h⟩) := dif_pos h
/-- Columns 4 to 35. -/
theorem rowAt_mask (h : ¬ c.val < 4) (h' : c.val - 4 < 32) : rowAt L M P b n c = M (ix3 b n ⟨c.val - 4, h'⟩) := (dif_neg h).trans (dif_pos h')
/-- Columns 36 to 39. -/
theorem rowAt_prior (h : ¬ c.val < 4) (h' : ¬ c.val - 4 < 32) : rowAt L M P b n c = P (ix2 n ⟨c.val - 4 - 32, by omega⟩) := (dif_neg h).trans (dif_neg h')
end

/-- A number below 20000, as a word, is not negative: it is not wrapped around. -/
theorem wrap_word (r : ℕ) (hr : r < 20000) (y : BitVec 32) : Scalar.select (IntOp.cmpi .slt (BitVec.ofNat 32 r) 0#32) y (BitVec.ofNat 32 r) = BitVec.ofNat 32 r := by
  unfold Scalar.select IntOp.cmpi
  have h : (BitVec.ofNat 32 r).slt 0#32 = false := by
    rw [← Bool.not_eq_true, BitVec.slt_iff_toInt_lt, BitVec.toInt_ofNat', Int.bmod_eq_of_le (by push_cast; omega) (by push_cast; omega)]
    simp
  simp [h]

end Cert.Proof

namespace Cert.Proof.ReferenceIdeal

open Cert.ReferenceIdeal
open Idealize.ShloMosaic Idealize.ShloMosaic.TcCoe Idealize.ShloMosaic.Tactic
open Cert.ReferenceIdeal.Gen Cert.ReferenceIdeal.Value

/-- The confidences. -/
abbrev confA (V0 : Valuation τ sig (Elt Ideal)) : Vec Ideal S4x20000x2 .f32 := V0 (Proc.devRef .tc main_arg1)
/-- The offsets. -/
abbrev locA (V0 : Valuation τ sig (Elt Ideal)) : Vec Ideal S4x20000x4 .f32 := V0 (Proc.devRef .tc main_arg2)
/-- The masks. -/
abbrev maskA (V0 : Valuation τ sig (Elt Ideal)) : Vec Ideal S4x20000x32 .f32 := V0 (Proc.devRef .tc main_arg3)
/-- The priors. -/
abbrev priorA (V0 : Valuation τ sig (Elt Ideal)) : Vec Ideal S20000x4 .f32 := V0 (Proc.devRef .tc main_arg4)

/-- The shares. -/
theorem v12_at (V0 : Valuation τ sig (Elt Ideal)) (b : Fin 4) (n : Fin 20000) :
    res_main_v12 V0 (ix2 b n) = share (confA V0 (ix3 b n 0)) (confA V0 (ix3 b n 1)) := by
  obtain ⟨x, hx⟩ : ∃ x : Vec Ideal S4x20000x2 .f32, x = V0 (Proc.devRef .tc main_arg1) := ⟨_, rfl⟩
  unfold res_main_v12 res_main_v6
  unfold confA
  rw [← hx]
  pointwise []
  rw [bits_bot]
  have e : (Finset.univ : Finset (Fin 2)).fold max ⊥ (fun k => x (ix3 b n k)) = max (x (ix3 b n 0)) (x (ix3 b n 1)) := by
    simp [Fin.univ_succ]
  have e' : (Finset.univ.filter (fun i => reducesTo_S4x20000x2_S4x20000_d2.drop i = ix2 b n)).fold max ⊥ x = max (x (ix3 b n 0)) (x (ix3 b n 1)) :=
    (Shape.ReducesTo.fold_fiber_r3_a2 reducesTo_S4x20000x2_S4x20000_d2 (ix2 b n) max ⊥ x).trans e
  simp only [Fin.sum_univ_two, max_eq_right (bot_le)]
  have key : ∀ M : EReal, M = max (x (ix3 b n 0)) (x (ix3 b n 1)) →
      Ideal.div (Ideal.exp (x (ix3 b n 1) - M)) (Ideal.exp (x (ix3 b n 0) - M) + Ideal.exp (x (ix3 b n 1) - M))
        = share (x (ix3 b n 0)) (x (ix3 b n 1)) := by
    rintro M rfl
    rfl
  exact key _ e'

/-- The greatest shares' rows. -/
theorem indices_at (V0 : Valuation τ sig (Elt Ideal)) (b : Fin 4) (σ : Fin 100 → Fin 20000)
    (hσ : Picks (fun n => share (confA V0 (ix3 b n 0)) (confA V0 (ix3 b n 1))) σ) (t : Fin 100) :
    res_main_indices V0 (ix2 b t) = BitVec.ofNat 32 (σ t).val := by
  refine (topK_at (res_main_v12 V0) _ b σ ?_ (by omega) t).2
  simp only [v12_at]
  exact hσ

/-- The greatest shares. -/
theorem values_at (V0 : Valuation τ sig (Elt Ideal)) (b : Fin 4) (σ : Fin 100 → Fin 20000)
    (hσ : Picks (fun n => share (confA V0 (ix3 b n 0)) (confA V0 (ix3 b n 1))) σ) (t : Fin 100) :
    (Host.topK S4x100 1 (FloatOps.cmpfTotal (F := Ideal) (φ := .f32) .gt) (res_main_v12 V0) sliceFits_S4x20000_S4x100).1 (ix2 b t)
      = share (confA V0 (ix3 b (σ t) 0)) (confA V0 (ix3 b (σ t) 1)) := by
  refine (topK_at (res_main_v12 V0) _ b σ ?_ (by omega) t).1.trans (v12_at V0 b (σ t))
  simp only [v12_at]
  exact hσ

/-- The batches' numbers. -/
theorem v16_at (V0 : Valuation τ sig (Elt Ideal)) (b : Fin 4) : res_main_v16 V0 (ix2 b 0) = BitVec.ofNat 32 b.val := by
  pointwise [res_main_v16]

/-- The picked boxes' offsets. -/
theorem v31_at (V0 : Valuation τ sig (Elt Ideal)) (b : Fin 4) (t : Fin 100) (n : Fin 20000) (hn : res_main_indices V0 (ix2 b t) = BitVec.ofNat 32 n.val) (c : Fin 4) :
    res_main_v31 V0 (ix3 b t c) = locA V0 (ix3 b n c) := by
  unfold res_main_v31
  refine gather_pair _ rfl rfl rfl rfl rfl _ _ b t c n (by omega) (by omega) ?_ ?_
  · pointwise []
    rw [v16_at, wrap_word _ (by omega)]
  · pointwise []
    rw [hn, wrap_word _ n.isLt]

/-- The picked boxes' priors. -/
theorem v61_at (V0 : Valuation τ sig (Elt Ideal)) (b : Fin 4) (t : Fin 100) (n : Fin 20000) (hn : res_main_indices V0 (ix2 b t) = BitVec.ofNat 32 n.val) (c : Fin 4) :
    res_main_v61 V0 (ix3 b t c) = priorA V0 (ix2 n c) := by
  unfold res_main_v61
  refine (gather_pair _ rfl rfl rfl rfl rfl _ _ b t c n (by omega) (by omega) ?_ ?_).trans ?_
  · pointwise []
    rw [v16_at, wrap_word _ (by omega)]
  · pointwise []
    rw [hn, wrap_word _ n.isLt]
  · pointwise []

end Cert.Proof.ReferenceIdeal

end
-- ==== Proof.RefGauss.lean ====
/- The reference's Gaussians and each box's greatest overlap with an earlier one. -/
module

public import proofs.«01_k».proof.Proof.RefPicks

@[expose] public section

noncomputable section

namespace Cert.Proof.ReferenceIdeal

open Cert.ReferenceIdeal
open Idealize.ShloMosaic Idealize.ShloMosaic.TcCoe Idealize.ShloMosaic.Tactic
open Cert.ReferenceIdeal.Gen Cert.ReferenceIdeal.Value

/-- The picked boxes' offsets. -/
abbrev offs (V0 : Valuation τ sig (Elt Ideal)) : Vec Ideal S4x100x4 .f32 := res_main_v31 V0
/-- The picked boxes' priors. -/
abbrev pris (V0 : Valuation τ sig (Elt Ideal)) : Vec Ideal S4x100x4 .f32 := res_main_v61 V0
/-- The picked boxes' Gaussians. -/
abbrev gaus (V0 : Valuation τ sig (Elt Ideal)) : Vec Ideal S4x100x32x32 .f32 := res_main_v136 V0

/-- One of the first thirty-one points of the grid: `0 · (1 - k/31) + 1 · k/31`. -/
theorem lin_point (k : ℕ) (hk : k < 32) :
    (0 : EReal) * (1 - Ideal.div (FloatOps.sitofp .f32 (BitVec.ofNat 32 k) : Ideal .f32) (Ideal.ofBits .f32 1106771968#32))
      + Ideal.div (FloatOps.sitofp .f32 (BitVec.ofNat 32 k) : Ideal .f32) (Ideal.ofBits .f32 1106771968#32) = gridPt k := by
  rw [KernelIdeal.sitofp_small k (by omega), bits_31, zero_mul, zero_add]
  unfold Ideal.div gridPt
  rw [if_neg (by exact_mod_cast (by norm_num : (31 : ℝ) ≠ 0)), ← EReal.coe_inv, ← EReal.coe_mul]

/-- The last point of the grid. -/
theorem lin_last : (1 : EReal) = gridPt 31 := by
  unfold gridPt
  norm_num

/-- The grid's points, the last one apart. -/
theorem lin_all (k : Fin 32) :
    (if _h : k.val < 31 then
      (0 : EReal) * (1 - Ideal.div (FloatOps.sitofp .f32 (BitVec.ofNat 32 k.val) : Ideal .f32) (Ideal.ofBits .f32 1106771968#32))
        + Ideal.div (FloatOps.sitofp .f32 (BitVec.ofNat 32 k.val) : Ideal .f32) (Ideal.ofBits .f32 1106771968#32)
      else 1) = gridPt k.val := by
  split
  · exact lin_point _ k.isLt
  · rw [lin_last, (by omega : k.val = 31)]

/-- The horizontal distance to a box's centre. -/
theorem v107_at (V0 : Valuation τ sig (Elt Ideal)) (b : Fin 4) (t : Fin 100) (x : Fin 32) :
    res_main_v107 V0 (ix4 b t 0 x) = gridPt x.val - (pris V0 (ix3 b t 0) + offs V0 (ix3 b t 0) * Ideal.ofBits .f32 1036831949#32 * pris V0 (ix3 b t 2)) := by
  pointwise [res_main_v107, res_main_call1_v0, res_main_call1_v1, res_main_call1_v6, id]
  rw [lin_all]

/-- The vertical distance to a box's centre. -/
theorem v121_at (V0 : Valuation τ sig (Elt Ideal)) (b : Fin 4) (t : Fin 100) (y : Fin 32) :
    res_main_v121 V0 (ix4 b t y 0) = gridPt y.val - (pris V0 (ix3 b t 1) + offs V0 (ix3 b t 1) * Ideal.ofBits .f32 1036831949#32 * pris V0 (ix3 b t 3)) := by
  pointwise [res_main_v121, res_main_call0_v0, res_main_call0_v1, res_main_call0_v6, id]
  rw [lin_all]

/-- Half a box's width. -/
theorem v110_at (V0 : Valuation τ sig (Elt Ideal)) (b : Fin 4) (t : Fin 100) :
    res_main_v110 V0 (ix4 b t 0 0) = pris V0 (ix3 b t 2) * Ideal.exp (offs V0 (ix3 b t 2) * Ideal.ofBits .f32 1045220557#32) * Ideal.ofBits .f32 1056964608#32 := by
  refine Eq.trans ?_ (div_two _)
  pointwise [res_main_v110]

/-- Half a box's height. -/
theorem v124_at (V0 : Valuation τ sig (Elt Ideal)) (b : Fin 4) (t : Fin 100) :
    res_main_v124 V0 (ix4 b t 0 0) = pris V0 (ix3 b t 3) * Ideal.exp (offs V0 (ix3 b t 3) * Ideal.ofBits .f32 1045220557#32) * Ideal.ofBits .f32 1056964608#32 := by
  refine Eq.trans ?_ (div_two _)
  pointwise [res_main_v124]

/-- The Gaussian of a picked box at a point of the grid. -/
theorem v136_at (V0 : Valuation τ sig (Elt Ideal)) (b : Fin 4) (t : Fin 100) (x y : Fin 32) :
    gaus V0 (ix4 b t y x) = boxBump (offs V0 (ix3 b t 0)) (offs V0 (ix3 b t 1)) (offs V0 (ix3 b t 2)) (offs V0 (ix3 b t 3))
      (pris V0 (ix3 b t 0)) (pris V0 (ix3 b t 1)) (pris V0 (ix3 b t 2)) (pris V0 (ix3 b t 3)) (gridPt x.val) (gridPt y.val) := by
  unfold boxBump bump
  rw [mul_div_one (denom_pos _), mul_div_one (denom_pos _), zero_sub]
  unfold denom
  unfold gaus
  pointwise [res_main_v136]
  rw [v107_at, v110_at, v121_at, v124_at]

/-- The sum over a 32 × 32 grid, as a sum over its 1024 places. -/
theorem sum_grid (x : Vec Ideal S4x100x100x32x32 .f32) (b : Fin 4) (i j : Fin 100) :
    Ideal.hostReduceAdd reducesTo_S4x100x100x32x32_S4x100x100_d3_4 x 0 (ix3 b i j)
      = ∑ l : Fin 1024, x (ix5 b i j (⟨l.val / 32, by omega⟩ : Fin 32) (⟨l.val % 32, by omega⟩ : Fin 32)) := by
  unfold Ideal.hostReduceAdd
  rw [zero_add]
  refine Finset.sum_filter_eq_sum_of_fiber _ (fun l : Fin 1024 => ix5 b i j (⟨l.val / 32, by omega⟩ : Fin 32) (⟨l.val % 32, by omega⟩ : Fin 32)) ?_ ?_ x
  · intro l l' h
    have h3 := congrArg Fin.val (congrFun h 3)
    have h4 := congrArg Fin.val (congrFun h 4)
    simp only [ix5_3, ix5_4] at h3 h4
    omega
  · intro p
    constructor
    · intro h
      have hp3 : (p 3).val < 32 := (p 3).isLt
      have hp4 : (p 4).val < 32 := (p 4).isLt
      refine ⟨⟨(p 3).val * 32 + (p 4).val, by omega⟩, ?_⟩
      funext a
      apply Fin.ext
      match a with
      | ⟨0, _⟩ => exact (congrArg Fin.val (congrFun h 0)).symm
      | ⟨1, _⟩ => exact (congrArg Fin.val (congrFun h 1)).symm
      | ⟨2, _⟩ => exact (congrArg Fin.val (congrFun h 2)).symm
      | ⟨3, _⟩ => show ((p 3).val * 32 + (p 4).val) / 32 = (p 3).val; omega
      | ⟨4, _⟩ => show ((p 3).val * 32 + (p 4).val) % 32 = (p 4).val; omega
    · rintro ⟨l, rfl⟩
      funext a
      apply Fin.ext
      match a with
      | ⟨0, _⟩ => rfl
      | ⟨1, _⟩ => rfl
      | ⟨2, _⟩ => rfl

/-- The comparison of row and column numbers. -/
theorem row_ge (i j : Fin 100) {α : Type} (x y : α) :
    Scalar.select (IntOp.cmpi .sge (IntOp.addi (BitVec.ofNat 32 i.val) 0#32) (BitVec.ofNat 32 j.val)) x y = if i.val < j.val then y else x := by
  unfold Scalar.select IntOp.cmpi IntOp.addi
  rw [BitVec.add_zero]
  have h : ∀ k : Fin 100, (BitVec.ofNat 32 k.val).toInt = k.val := fun k => by
    rw [BitVec.toInt_ofNat', Int.bmod_eq_of_le (by push_cast; omega) (by push_cast; omega)]
  have e : (BitVec.ofNat 32 j.val).sle (BitVec.ofNat 32 i.val) = decide (j.val ≤ i.val) := by
    rw [BitVec.sle_eq_decide, h, h]
    simp
  by_cases hij : i.val < j.val
  · rw [decide_eq_false (Nat.not_le.mpr hij)] at e
    simp [hij, e]
  · rw [decide_eq_true (Nat.le_of_not_lt hij)] at e
    simp [hij, e]

/-- A picked box's Gaussian over the 1024 places of the grid. -/
def gline (V0 : Valuation τ sig (Elt Ideal)) (b : Fin 4) (i : Fin 100) (l : Fin 1024) : EReal :=
  gaus V0 (ix4 b i (⟨l.val / 32, by omega⟩ : Fin 32) (⟨l.val % 32, by omega⟩ : Fin 32))

/-- A picked box's greatest overlap with an earlier one, negated. -/
theorem v152_at (V0 : Valuation τ sig (Elt Ideal)) (b : Fin 4) (j : Fin 100) :
    (res_main_v152 V0 : Vec Ideal S4x100 .f32) (ix2 b j) = - worst (gline V0 b) j := by
  pointwise [res_main_v152, res_main_v137, res_main_v138]
  unfold worst
  rw [bits_bot]
  simp only [row_ge, sum_grid, overlap_comm _ (gline V0 b j)]
  unfold overlap gline
  pointwise []

end Cert.Proof.ReferenceIdeal
end
-- ==== Proof.RefOut.lean ====
/- What the reference returns: the rows of the fifty least overlapping of the hundred picked boxes. -/
module

public import proofs.«01_k».proof.Proof.RefGauss

@[expose] public section

noncomputable section

namespace Cert.Proof.ReferenceIdeal

open Cert.ReferenceIdeal
open Idealize.ShloMosaic Idealize.ShloMosaic.TcCoe Idealize.ShloMosaic.Tactic
open Cert.ReferenceIdeal.Gen Cert.ReferenceIdeal.Value

/-- Where the reference looks up the `t`-th kept box: the batch's number and the box's number among the hundred picked. -/
def keptPairs (V0 : Valuation τ sig (Elt Ideal)) : IVec S4x50x2 32 :=
  concatenate S4x50x2 2 [⟨S4x50x1, (broadcastInDim S4x50x1 ![0, 1] bcast_S4x50_S4x50x1_0_1 (broadcastInDim S4x50 ![0, 1] bcast_S4x1_S4x50_0_1 (select (cmpi .slt (res_main_v16 V0) (broadcastInDim S4x1 ![] bcast_S_S4x1 (constantI S_ 32 0#32))) (addi (res_main_v16 V0) (broadcastInDim S4x1 ![] bcast_S_S4x1 (constantI S_ 32 4#32))) (res_main_v16 V0))))⟩, ⟨S4x50x1, (broadcastInDim S4x50x1 ![0, 1] bcast_S4x50_S4x50x1_0_1 (select (cmpi .slt (res_main_indices_32 V0) (broadcastInDim S4x50 ![] bcast_S_S4x50 (constantI S_ 32 0#32))) (addi (res_main_indices_32 V0) (broadcastInDim S4x50 ![] bcast_S_S4x50 (constantI S_ 32 100#32))) (res_main_indices_32 V0)))⟩] concatenates_S4x50x1_S4x50x1_S4x50x2_d2

/-- The batch's number. -/
theorem keptPairs_zero (V0 : Valuation τ sig (Elt Ideal)) (b : Fin 4) (t : Fin 50) : keptPairs V0 (ix3 b t 0) = BitVec.ofNat 32 b.val := by
  pointwise [keptPairs]
  rw [v16_at, wrap_word _ (by omega)]

/-- The picked box's number. -/
theorem keptPairs_one (V0 : Valuation τ sig (Elt Ideal)) (b : Fin 4) (t : Fin 50) (r : Fin 100)
    (h : res_main_indices_32 V0 (ix2 b t) = BitVec.ofNat 32 r.val) : keptPairs V0 (ix3 b t 1) = BitVec.ofNat 32 r.val := by
  pointwise [keptPairs]
  rw [h, wrap_word _ (by omega)]

/-- The picked box's number, as the confidences' lookup has it. -/
theorem call3_at (V0 : Valuation τ sig (Elt Ideal)) (b : Fin 4) (t : Fin 50) (r : Fin 100)
    (h : res_main_indices_32 V0 (ix2 b t) = BitVec.ofNat 32 r.val) : res_main_call3_v5 V0 (ix3 b t 0) = BitVec.ofNat 32 r.val := by
  pointwise [res_main_call3_v5]
  rw [h, wrap_word _ (by omega)]

/-- A number below 100 passes the range check. -/
theorem in_range (r : Fin 100) :
    IntOp.andi (IntOp.cmpi .sge (BitVec.ofNat 32 r.val) 0#32) (IntOp.cmpi .sle (BitVec.ofNat 32 r.val) 99#32) = 1#1 := by
  revert r
  decide

/-- So does the lookup of every kept box's confidence. -/
theorem range_at (V0 : Valuation τ sig (Elt Ideal)) (b : Fin 4) (t : Fin 50) (r : Fin 100)
    (h : res_main_indices_32 V0 (ix2 b t) = BitVec.ofNat 32 r.val) :
    (Finset.univ.filter (fun i => reducesTo_S4x50x1_S4x50_d2.drop i = ix2 b t)).fold IntOp.andi 1#1
      (fun x => IntOp.andi (IntOp.cmpi .sge ((res_main_call3_v5 V0 : IVec S4x50x1 32) x) 0#32) (IntOp.cmpi .sle ((res_main_call3_v5 V0 : IVec S4x50x1 32) x) 99#32)) = 1#1 := by
  refine (Shape.ReducesTo.fold_fiber_r3_a2 reducesTo_S4x50x1_S4x50_d2 (ix2 b t) IntOp.andi 1#1 _).trans ?_
  have e : ∀ k : Fin 1, IntOp.andi (IntOp.cmpi .sge ((res_main_call3_v5 V0 : IVec S4x50x1 32) (ix3 b t k)) 0#32)
      (IntOp.cmpi .sle ((res_main_call3_v5 V0 : IVec S4x50x1 32) (ix3 b t k)) 99#32) = 1#1 := fun k => by
    rw [show k = 0 from Subsingleton.elim _ _, call3_at V0 b t r h]
    exact in_range r
  refine (Finset.fold_congr (g := fun _ => 1#1) fun k _ => e k).trans ?_
  decide

/-- The reference's result. -/
theorem v200_at (V0 : Valuation τ sig (Elt Ideal)) (b : Fin 4) (t : Fin 50) (l : Fin 41) (σ : Fin 100 → Fin 20000) (π : Fin 50 → Fin 100)
    (h1 : ∀ t, res_main_indices V0 (ix2 b t) = BitVec.ofNat 32 (σ t).val) (h2 : ∀ t, res_main_indices_32 V0 (ix2 b t) = BitVec.ofNat 32 (π t).val)
    (h3 : ∀ t, (Host.topK S4x100 1 (FloatOps.cmpfTotal (F := Ideal) (φ := .f32) .gt) (res_main_v12 V0) sliceFits_S4x20000_S4x100).1 (ix2 b t)
      = share (confA V0 (ix3 b (σ t) 0)) (confA V0 (ix3 b (σ t) 1))) :
    (res_main_v200 V0 : Vec Ideal S4x50x41 .f32) (ix3 b t l)
      = KernelIdeal.outRow (rowAt (locA V0) (maskA V0) (priorA V0) b (σ (π t))) (share (confA V0 (ix3 b (σ (π t)) 0)) (confA V0 (ix3 b (σ (π t)) 1))) l := by
  unfold res_main_v200
  pointwise []
  unfold KernelIdeal.outRow
  by_cases hl : l.val < 4
  · refine (dif_pos hl).trans ?_
    rw [dif_pos (by omega : l.val < 36), rowAt_loc _ _ _ _ _ _ hl]
    refine (gather_pair _ rfl rfl rfl rfl rfl _ _ b t _ (π t) (by omega) (by omega) (keptPairs_zero V0 b t) (keptPairs_one V0 b t _ (h2 t))).trans ?_
    exact v31_at V0 b (π t) (σ (π t)) (h1 _) _
  · refine (dif_neg hl).trans ?_
    by_cases hl' : l.val - 4 < 32
    · refine (dif_pos hl').trans ?_
      rw [dif_pos (by omega : l.val < 36), rowAt_mask _ _ _ _ _ _ hl hl']
      refine (gather_pair _ rfl rfl rfl rfl rfl _ _ b t _ (π t) (by omega) (by omega) (keptPairs_zero V0 b t) (keptPairs_one V0 b t _ (h2 t))).trans ?_
      refine gather_pair _ rfl rfl rfl rfl rfl _ _ b (π t) _ (σ (π t)) (by omega) (by omega) ?_ ?_
      · pointwise []
        rw [v16_at, wrap_word _ (by omega)]
      · pointwise []
        rw [h1, wrap_word _ (σ (π t)).isLt]
    · refine (dif_neg hl').trans ?_
      by_cases hl'' : l.val - 4 - 32 < 1
      · refine (dif_pos hl'').trans ?_
        rw [dif_neg (by omega : ¬ l.val < 36), if_pos (by omega : l.val = 36)]
        refine (congrArg (fun c => Scalar.select c _ _) (range_at V0 b t (π t) (h2 t))).trans ?_
        refine Eq.trans ?_ (h3 (π t))
        exact gather_line gather_S4x100_S4x50x1_S4x50_n_1_0_0_1_2_11 rfl rfl rfl rfl rfl rfl (Host.topK S4x100 1 (FloatOps.cmpfTotal (F := Ideal) (φ := .f32) .gt) (res_main_v12 V0) sliceFits_S4x20000_S4x100).1 (res_main_call3_v5 V0) b t (π t) (by omega) (call3_at V0 b t (π t) (h2 t))
      · refine (dif_neg hl'').trans ?_
        rw [dif_neg (by omega : ¬ l.val < 36), if_neg (by omega : ¬ l.val = 36)]
        rw [rowAt_prior _ _ _ _ _ _ (by show ¬ (l.val - 1 < 4); omega) (by show ¬ (l.val - 1 - 4 < 32); omega)]
        refine (gather_pair _ rfl rfl rfl rfl rfl _ _ b t _ (π t) (by omega) (by omega) (keptPairs_zero V0 b t) (keptPairs_one V0 b t _ (h2 t))).trans ?_
        refine (v61_at V0 b (π t) (σ (π t)) (h1 _) _).trans ?_
        refine congrArg (fun c => priorA V0 (ix2 (σ (π t)) c)) (Fin.ext ?_)
        show l.val - 4 - 32 - 1 = l.val - 1 - 4 - 32
        omega

/-- A picked box's Gaussian, from its forty columns. -/
theorem gline_eq (V0 : Valuation τ sig (Elt Ideal)) (b : Fin 4) (σ : Fin 100 → Fin 20000)
    (h1 : ∀ t, res_main_indices V0 (ix2 b t) = BitVec.ofNat 32 (σ t).val) :
    gline V0 b = fun i => boxGauss (rowAt (locA V0) (maskA V0) (priorA V0) b (σ i)) := by
  funext i l
  unfold gline boxGauss
  rw [v136_at]
  unfold offs pris
  simp only [fun c => v31_at V0 b i (σ i) (h1 i) c, fun c => v61_at V0 b i (σ i) (h1 i) c]
  rfl

/-- The reference's result, for the picks of the shares and of the overlaps. -/
theorem out_at (V0 : Valuation τ sig (Elt Ideal)) (b : Fin 4) (t : Fin 50) (l : Fin 41) (σ : Fin 100 → Fin 20000) (π : Fin 50 → Fin 100)
    (hσ : Picks (fun n => share (confA V0 (ix3 b n 0)) (confA V0 (ix3 b n 1))) σ)
    (hπ : Picks (fun j => - worst (fun i => boxGauss (rowAt (locA V0) (maskA V0) (priorA V0) b (σ i))) j) π) :
    (res_main_v200 V0 : Vec Ideal S4x50x41 .f32) (ix3 b t l)
      = KernelIdeal.outRow (rowAt (locA V0) (maskA V0) (priorA V0) b (σ (π t))) (share (confA V0 (ix3 b (σ (π t)) 0)) (confA V0 (ix3 b (σ (π t)) 1))) l := by
  have h1 := fun t => indices_at V0 b σ hσ t
  refine v200_at V0 b t l σ π h1 (fun t => ?_) (fun t => values_at V0 b σ hσ t)
  refine (topK_at (res_main_v152 V0 : Vec Ideal S4x100 .f32) _ b π ?_ (by omega) t).2
  simp only [v152_at, gline_eq V0 b σ h1]
  exact hπ

end Cert.Proof.ReferenceIdeal
end
-- ==== Proof.Arrays.lean ====
/- What the kernel's arrays hold: the three that it reads, in the arguments, and the one that it leaves. -/
module

public import proofs.«01_k».proof.Proof.Region
public import proofs.«01_k».proof.Proof.RefOut
public import Idealize.ShloMosaic.Lib.StableHlo.ReadAt
public import Idealize.ShloMosaic.Lib.Pipeline.ValueKit

@[expose] public section

noncomputable section

namespace Cert.Proof.KernelIdeal

open Cert.KernelIdeal
open Idealize.ShloMosaic Idealize.ShloMosaic.TcCoe Idealize.ShloMosaic.Tactic
open Idealize.ShloMosaic.Pipeline (Window)
open Cert.KernelIdeal.Gen

variable (m : (ℓ : Loc nD τ sig) → Buf (Elt Ideal) ℓ) (ρ : Dev nD → PrngReg) (c : Dev nD)

/-- The confidences, as launched. -/
abbrev confM : Vec Ideal S4x20000x2 .f32 := m ((c.tc : Thread nD τ).loc main_arg1)
/-- The offsets, as launched. -/
abbrev locM : Vec Ideal S4x20000x4 .f32 := m ((c.tc : Thread nD τ).loc main_arg2)
/-- The masks, as launched. -/
abbrev maskM : Vec Ideal S4x20000x32 .f32 := m ((c.tc : Thread nD τ).loc main_arg3)
/-- The priors, as launched. -/
abbrev priorM : Vec Ideal S20000x4 .f32 := m ((c.tc : Thread nD τ).loc main_arg4)

/-- The first class's array holds the confidences, folded into rows of 128. -/
theorem v3_at (b : Fin 4) (r : Fin 160) (q : Fin 128) (n : Fin 20000) (h : r.val * 128 + q.val = n.val) :
    (V m c main_v3 : Vec Ideal S4x160x128 .f32) (ix3 b r q) = confM m c (ix3 b n 0) := by
  unfold V
  after_reads_at
  rw [dif_pos (by omega)]
  exact congrArg (fun k => confM m c (ix3 b k 0)) (Fin.ext h)

/-- The second class's array likewise. -/
theorem v5_at (b : Fin 4) (r : Fin 160) (q : Fin 128) (n : Fin 20000) (h : r.val * 128 + q.val = n.val) :
    (V m c main_v5 : Vec Ideal S4x160x128 .f32) (ix3 b r q) = confM m c (ix3 b n 1) := by
  unfold V
  after_reads_at
  rw [dif_pos (by omega)]
  exact congrArg (fun k => confM m c (ix3 b k 1)) (Fin.ext h)

/-- The rows' array holds each box's forty columns. -/
theorem v8_at (b : Fin 4) (n : Fin 20000) (j : Fin 40) :
    (V m c main_v8 : Vec Ideal S4x20000x40 .f32) (ix3 b n j) = rowAt (locM m c) (maskM m c) (priorM m c) b n j := by
  unfold V
  after_reads_at
  after_reads_at
  rfl

/-- Every window's block starts at its array's origin, at the one point. -/
theorem origin_0 : ∀ (t : Fin cfg0.N) (a : Fin 3), win0_0.index t a = 0 := (by decide +kernel : ∀ (t : Fin grid0.N) (a : Fin 3), _)
/-- The second window's likewise. -/
theorem origin_1 : ∀ (t : Fin cfg0.N) (a : Fin 3), win0_1.index t a = 0 := (by decide +kernel : ∀ (t : Fin grid0.N) (a : Fin 3), _)
/-- The third window's likewise. -/
theorem origin_2 : ∀ (t : Fin cfg0.N) (a : Fin 3), win0_2.index t a = 0 := (by decide +kernel : ∀ (t : Fin grid0.N) (a : Fin 3), _)

/-- The first block is the whole of its array. -/
theorem blk_0 (t : Fin cfg0.N) : (iblk m c 0 t : Vec Ideal S4x160x128 .f32) = V m c main_v3 := by
  funext j
  unfold iblk
  blk_simp
  refine congrArg (V m c main_v3) (funext fun a => Fin.ext ?_)
  exact Window.rect_emb_val_of_index_zero win0_0 t a (origin_0 t a) j

/-- The second likewise. -/
theorem blk_1 (t : Fin cfg0.N) : (iblk m c 1 t : Vec Ideal S4x160x128 .f32) = V m c main_v5 := by
  funext j
  unfold iblk
  blk_simp
  refine congrArg (V m c main_v5) (funext fun a => Fin.ext ?_)
  exact Window.rect_emb_val_of_index_zero win0_1 t a (origin_1 t a) j

/-- The third likewise. -/
theorem blk_2 (t : Fin cfg0.N) : (iblk m c 2 t : Vec Ideal S4x20000x40 .f32) = V m c main_v8 := by
  funext j
  unfold iblk
  blk_simp
  refine congrArg (V m c main_v8) (funext fun a => Fin.ext ?_)
  exact Window.rect_emb_val_of_index_zero win0_2 t a (origin_2 t a) j

/-- The result's array is the one block. -/
theorem out_arr : (dats m 0 c).arrAt 3 cfg0.N = outsAt m c t0_0 := by
  refine (dats m 0 c).arrAt_eq_of_after_last 3 t0_0 (by decide +kernel) _ fun j => ?_
  blk_simp
  exact congrFun (after0_3 m c t0_0) j

/-- A row's share, in the confidences as launched. -/
theorem shareAt_eq (b : Fin 4) (n : Fin 20000) :
    shareAt (V m c main_v3) (V m c main_v5) b n = share (confM m c (ix3 b n 0)) (confM m c (ix3 b n 1)) := by
  unfold shareAt
  have h : (place n).1.val * 128 + (place n).2.val = n.val := by
    show n.val / 128 * 128 + n.val % 128 = n.val
    omega
  rw [v3_at m c b _ _ n h, v5_at m c b _ _ n h]

/-- The kernel's result, element by element, in the arguments as launched. -/
theorem outs_at (b : Fin 4) (h0 : ∀ n, 0 ≤ share (confM m c (ix3 b n 0)) (confM m c (ix3 b n 1))) :
    ∃ (σ : Fin 100 → Fin 20000) (π : Fin 50 → Fin 100),
      Picks (fun n => share (confM m c (ix3 b n 0)) (confM m c (ix3 b n 1))) σ
      ∧ Picks (fun j => - worst (fun i => boxGauss (rowAt (locM m c) (maskM m c) (priorM m c) b (σ i))) j) π
      ∧ ∀ t l, outsAt m c t0_0 (ix3 b t l)
          = outRow (rowAt (locM m c) (maskM m c) (priorM m c) b (σ (π t))) (share (confM m c (ix3 b (σ (π t)) 0)) (confM m c (ix3 b (σ (π t)) 1))) l := by
  obtain ⟨σ, π, hσ, hπ, ho⟩ := kernelOut_at (V m c main_v3) (V m c main_v5) (V m c main_v8) b fun n => by rw [shareAt_eq]; exact h0 n
  have hs : shareAt (V m c main_v3) (V m c main_v5) b = fun n => share (confM m c (ix3 b n 0)) (confM m c (ix3 b n 1)) := funext fun n => shareAt_eq m c b n
  have hr : ∀ n, (fun j => (V m c main_v8 : Vec Ideal S4x20000x40 .f32) (ix3 b n j)) = rowAt (locM m c) (maskM m c) (priorM m c) b n := fun n => funext fun j => v8_at m c b n j
  rw [hs] at hσ
  simp only [hr] at hπ
  refine ⟨σ, π, hσ, hπ, fun t l => ?_⟩
  unfold outsAt
  rw [blk_0, blk_1, blk_2, ho, hr, shareAt_eq]

/-- Every execution leaves the result's array at the kernel's value, the arguments as launched. -/
theorem run_out : θ_run defs (onTc (τ := τ) (main (F := Ideal))) ⟨m, fun _ => 0, ρ⟩ (fun r => ∀ c : Dev nD,
      r.2.mem ((c.tc : Thread nD τ).loc main_v9) = outsAt m c t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 3).trans (out_arr m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ)

end Cert.Proof.KernelIdeal
end
-- ==== Proof.Defined.lean ====
/- What the precondition gives: every row's greater confidence is finite, so that every share is at least zero. -/
module

public import proofs.«01_k».proof.Pre_softmax_defined
public import proofs.«01_k».proof.Proof.Math
public import Idealize.ShloMosaic.Lib.Pointwise

@[expose] public section

noncomputable section

namespace Cert.Proof

open Idealize.ShloMosaic Idealize.ShloMosaic.Tactic
open Cert.Pre_softmax_defined

/-- The side conditions of the precondition's operations. -/
theorem preFacts : Cert.Pre_softmax_defined.Facts where
  slices_S4x20000x2_S4x20000x1_0_0_0 := by decide
  shapeCasts_S4x20000x1_S4x20000 := by decide
  slices_S4x20000x2_S4x20000x1_0_0_1 := by decide
  bcast_S_S4x20000 := by decide

attribute [local instance] preFacts

/-- The precondition at a row, in the row's two confidences. -/
theorem defined_at (a0 : Vec Ideal S4x3x256x256 .f32) (a1 : Vec Ideal S4x20000x2 .f32) (a2 : Vec Ideal S4x20000x4 .f32)
    (a3 : Vec Ideal S4x20000x32 .f32) (a4 : Vec Ideal S20000x4 .f32)
    (h : Cert.Pre_softmax_defined.fn (F := Ideal) a0 a1 a2 a3 a4 = fun _ => 1#1) (b : Fin 4) (n : Fin 20000) :
    ⊥ < max (a1 (ix3 b n 0)) (a1 (ix3 b n 1)) ∧ max (a1 (ix3 b n 0)) (a1 (ix3 b n 1)) < ⊤ := by
  have e := congrFun h (ix2 b n)
  pointwise [Cert.Pre_softmax_defined.fn] at e
  rw [bits_bot, bits_top] at e
  by_cases h1 : ⊥ < max (a1 (ix3 b n 0)) (a1 (ix3 b n 1)) <;> by_cases h2 : max (a1 (ix3 b n 0)) (a1 (ix3 b n 1)) < ⊤ <;>
    simp only [h1, h2, decide_true, decide_false] at e ⊢ <;> first | exact ⟨trivial, trivial⟩ | exact absurd e (by decide)

/-- So under the precondition every share is at least zero. -/
theorem share_defined (a0 : Vec Ideal S4x3x256x256 .f32) (a1 : Vec Ideal S4x20000x2 .f32) (a2 : Vec Ideal S4x20000x4 .f32)
    (a3 : Vec Ideal S4x20000x32 .f32) (a4 : Vec Ideal S20000x4 .f32)
    (h : Cert.Pre_softmax_defined.fn (F := Ideal) a0 a1 a2 a3 a4 = fun _ => 1#1) (b : Fin 4) (n : Fin 20000) :
    0 ≤ share (a1 (ix3 b n 0)) (a1 (ix3 b n 1)) :=
  share_nonneg _ _ (defined_at a0 a1 a2 a3 a4 h b n).1 (defined_at a0 a1 a2 a3 a4 h b n).2

end Cert.Proof

end
-- ==== Proof.Same.lean ====
/- The equation: from memories agreeing on the arguments, the kernel and the reference leave the same result. -/
module

public import proofs.«01_k».proof.Defs
public import proofs.«01_k».proof.Proof.Arrays
public import proofs.«01_k».proof.Proof.RefOut
public import proofs.«01_k».proof.Proof.Defined
public import proofs.«01_k».proof.Proof.Gen.ReferenceIdeal.Run

@[expose] public section

noncomputable section

namespace Cert.Proof

open Idealize.ShloMosaic Idealize.ShloMosaic.TcCoe Idealize.ShloMosaic.Tactic

attribute [local instance] Cert.KernelIdeal.Gen.facts Cert.ReferenceIdeal.Gen.facts preFacts

/-- On one device the reference's result is the kernel's, where every share is at least zero and the arguments agree. -/
theorem same (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (h0 : ∀ b n, 0 ≤ share (KernelIdeal.confM m c (ix3 b n 0)) (KernelIdeal.confM m c (ix3 b n 1)))
    (e1 : ReferenceIdeal.confA V0 = KernelIdeal.confM m c) (e2 : ReferenceIdeal.locA V0 = KernelIdeal.locM m c)
    (e3 : ReferenceIdeal.maskA V0 = KernelIdeal.maskM m c) (e4 : ReferenceIdeal.priorA V0 = KernelIdeal.priorM m c) :
    (Cert.ReferenceIdeal.Value.res_main_v200 V0 : Vec Ideal Cert.KernelIdeal.S4x50x41 .f32) = KernelIdeal.outsAt m c Cert.KernelIdeal.Gen.t0_0 := by
  funext i
  obtain ⟨b, t, l, rfl⟩ : ∃ b t l, i = ix3 b t l := ⟨_, _, _, eq_ix3 i⟩
  obtain ⟨σ, π, hσ, hπ, ho⟩ := KernelIdeal.outs_at m c b (h0 b)
  rw [← e1] at hσ
  rw [← e2, ← e3, ← e4] at hπ
  rw [ho, ← e1, ← e2, ← e3, ← e4]
  exact ReferenceIdeal.out_at V0 b t l σ π hσ hπ

/-- Under the precondition the kernel and the reference end with equal results and the arguments unchanged. -/
theorem algebraic : Cert.algebraic_KernelIdeal_ReferenceIdeal_pre_softmax_defined := fun m g m' g' hp he =>
  ⟨fun c => KernelIdeal.outsAt m c Cert.KernelIdeal.Gen.t0_0, KernelIdeal.run_out m g,
    (θ_run Cert.ReferenceIdeal.defs _ _).mono (fun _ h c =>
      ⟨(h c).1.trans (same m c _ (fun b n => share_defined _ _ _ _ _ (hp c) b n) (he c).2.1 (he c).2.2.1 (he c).2.2.2.1 (he c).2.2.2.2), (h c).2⟩)
      (Cert.ReferenceIdeal.Value.run m' g')⟩

end Cert.Proof

end
-- ==== Proof.lean ====
/- The claims: the frames of the kernel, of its idealization and of the reference, the named constant, and that the
   idealized kernel and the reference end with the same result. -/
module

public import proofs.«01_k».proof.Defs
public import proofs.«01_k».proof.Proof.Frames
public import proofs.«01_k».proof.Proof.Same
public import Idealize.ShloMosaic.Adequacy
public import Idealize.ShloMosaic.Init

@[expose] public section

noncomputable section

namespace Cert.Proof

/-- Everything the certificate claims. -/
theorem claim : Cert.Claim := ⟨Cert.Kernel.Gen.facts, Cert.KernelIdeal.Gen.facts, Cert.ReferenceIdeal.Gen.facts, preFacts,
  quiescent_Kernel, quiescent_KernelIdeal, fun m g _ => quiescent_KernelIdeal m g trivial,
  quiescent_ReferenceIdeal, fun m g _ => quiescent_ReferenceIdeal m g trivial, preserves, algebraic⟩

end Cert.Proof

end
